-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![16384, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S1x32x32x1024 : Shape := ⟨4, ![1, 32, 32, 1024]⟩
abbrev S32x1024 : Shape := ⟨2, ![32, 1024]⟩
abbrev S1x32 : Shape := ⟨2, ![1, 32]⟩
abbrev S_ : Shape := ⟨0, ![]⟩
abbrev S1x1 : Shape := ⟨2, ![1, 1]⟩
abbrev S1x1x32x1024 : Shape := ⟨4, ![1, 1, 32, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S1024x1024, .bf16⟩
  | .local _ .vmem, ⟨0, _⟩ => ⟨S1024x512, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x32x32x1024, .bf16⟩
  | .local _ .vmem, ⟨5, _⟩ => ⟨S32x1024, .f32⟩
  | _, _ => ⟨S1024x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c1_i32_0 : BitVec 32 := 1#32
  let c31_i32 : BitVec 32 := 31#32
  let v4 : BitVec 32 := Scalar.addi c1_i32_0 c31_i32
  let c1_i32_1 : BitVec 32 := 1#32
  ⟨c1_i32_0, v4, c1_i32_1⟩
def k0_dev1 (d0 : Dev nD) (k0_t1 : Fin k0_t1_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let c1_i32_1 : BitVec 32 := 1#32
  let arg10 : BitVec 32 := Scf.iv c1_i32_0 c1_i32_1 k0_t1
  let v38 : BitVec 32 := Scalar.addi v2 arg10
  let c32_i32_43 : BitVec 32 := 32#32
  let v39 : BitVec 32 := Scalar.remsi v38 c32_i32_43
  let c1_i32_45 : BitVec 32 := 1#32
  let v40 : BitVec 32 := Scalar.muli v39 c1_i32_45
  let v41 : BitVec 32 := Scalar.addi c0_i32 v40
  v41.toNat
@[reducible] def k0_t2_loop : Scf.Loop 32 :=
  let c1_i32_9 : BitVec 32 := 1#32
  let c31_i32_10 : BitVec 32 := 31#32
  let v14 : BitVec 32 := Scalar.addi c1_i32_9 c31_i32_10
  let c1_i32_11 : BitVec 32 := 1#32
  ⟨c1_i32_9, v14, c1_i32_11⟩
def k0_off1 (k0_t2 : Fin k0_t2_loop.trips) : Fin 2 → Nat :=
  let c0_i32_46 : BitVec 32 := 0#32
  let c1_i32_9 : BitVec 32 := 1#32
  let c1_i32_11 : BitVec 32 := 1#32
  let arg10 : BitVec 32 := Scf.iv c1_i32_9 c1_i32_11 k0_t2
  ![0, arg10.toNat]
def k0_off2 (d0 : Dev nD) : Fin 2 → Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off3 (d0 : Dev nD) : Fin 4 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_49 : BitVec 32 := 0#32
  let c0_i32_50 : BitVec 32 := 0#32
  ![0, v2.toNat, 0, 0]
def k0_off4 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_9 : BitVec 32 := 1#32
  let c1_i32_11 : BitVec 32 := 1#32
  let arg10 : BitVec 32 := Scf.iv c1_i32_9 c1_i32_11 k0_t2
  let v38 : BitVec 32 := Scalar.addi v2 arg10
  let c32_i32_43 : BitVec 32 := 32#32
  let v39 : BitVec 32 := Scalar.remsi v38 c32_i32_43
  let c32_i32_44 : BitVec 32 := 32#32
  let v40 : BitVec 32 := Scalar.muli v39 c32_i32_44
  let c0_i32_51 : BitVec 32 := 0#32
  ![v40.toNat, 0]
def k0_dev2 (d0 : Dev nD) (k0_t2 : Fin k0_t2_loop.trips) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_9 : BitVec 32 := 1#32
  let c1_i32_11 : BitVec 32 := 1#32
  let arg10 : BitVec 32 := Scf.iv c1_i32_9 c1_i32_11 k0_t2
  let v38 : BitVec 32 := Scalar.addi v2 arg10
  let c32_i32_43 : BitVec 32 := 32#32
  let v39 : BitVec 32 := Scalar.remsi v38 c32_i32_43
  let c1_i32_47 : BitVec 32 := 1#32
  let v41 : BitVec 32 := Scalar.muli v39 c1_i32_47
  let v42 : BitVec 32 := Scalar.addi c0_i32_48 v41
  v42.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_13 : BitVec 32 := 32#32
  let v15 : BitVec 32 := Scalar.muli v2 c32_i32_13
  let v16 : Index := Scalar.indexCast v15
  let c0_14 : Index := 0#32
  ![v16.toNat, 0]
@[reducible] def k0_t3_loop : Scf.Loop 32 :=
  let c1_i32_17 : BitVec 32 := 1#32
  let c31_i32_18 : BitVec 32 := 31#32
  let v22 : BitVec 32 := Scalar.addi c1_i32_17 c31_i32_18
  let c1_i32_19 : BitVec 32 := 1#32
  ⟨c1_i32_17, v22, c1_i32_19⟩
def k0_off6 (d0 : Dev nD) (k0_t3 : Fin k0_t3_loop.trips) : Fin 2 → Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_17 : BitVec 32 := 1#32
  let c1_i32_19 : BitVec 32 := 1#32
  let arg10 : BitVec 32 := Scf.iv c1_i32_17 c1_i32_19 k0_t3
  let v38 : BitVec 32 := Scalar.subi v2 arg10
  let c32_i32_43 : BitVec 32 := 32#32
  let v39 : BitVec 32 := Scalar.addi v38 c32_i32_43
  let c32_i32_44 : BitVec 32 := 32#32
  let v40 : BitVec 32 := Scalar.remsi v39 c32_i32_44
  ![0, v40.toNat]
def k0_off7 (d0 : Dev nD) (k0_t3 : Fin k0_t3_loop.trips) : Fin 4 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_17 : BitVec 32 := 1#32
  let c1_i32_19 : BitVec 32 := 1#32
  let arg10 : BitVec 32 := Scf.iv c1_i32_17 c1_i32_19 k0_t3
  let v38 : BitVec 32 := Scalar.subi v2 arg10
  let c32_i32_43 : BitVec 32 := 32#32
  let v39 : BitVec 32 := Scalar.addi v38 c32_i32_43
  let c32_i32_44 : BitVec 32 := 32#32
  let v40 : BitVec 32 := Scalar.remsi v39 c32_i32_44
  let c0_i32_50 : BitVec 32 := 0#32
  let c0_i32_51 : BitVec 32 := 0#32
  ![0, v40.toNat, 0, 0]
def k0_off8 (d0 : Dev nD) (k0_t3 : Fin k0_t3_loop.trips) : Fin 4 → Nat :=
  let c0_56 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_17 : BitVec 32 := 1#32
  let c1_i32_19 : BitVec 32 := 1#32
  let arg10 : BitVec 32 := Scf.iv c1_i32_17 c1_i32_19 k0_t3
  let v38 : BitVec 32 := Scalar.subi v2 arg10
  let c32_i32_43 : BitVec 32 := 32#32
  let v39 : BitVec 32 := Scalar.addi v38 c32_i32_43
  let c32_i32_44 : BitVec 32 := 32#32
  let v40 : BitVec 32 := Scalar.remsi v39 c32_i32_44
  let v49 : Index := Scalar.indexCast v40
  let c0_57 : Index := 0#32
  let c0_58 : Index := 0#32
  ![0, v49.toNat, 0, 0]
@[reducible] def k0_t4_loop : Scf.Loop 32 :=
  let c1_i32_27 : BitVec 32 := 1#32
  let c31_i32_28 : BitVec 32 := 31#32
  let v34 : BitVec 32 := Scalar.addi c1_i32_27 c31_i32_28
  let c1_i32_29 : BitVec 32 := 1#32
  ⟨c1_i32_27, v34, c1_i32_29⟩
def k0_off9 (k0_t4 : Fin k0_t4_loop.trips) : Fin 2 → Nat :=
  let c0_i32_46 : BitVec 32 := 0#32
  let c1_i32_27 : BitVec 32 := 1#32
  let c1_i32_29 : BitVec 32 := 1#32
  let arg10 : BitVec 32 := Scf.iv c1_i32_27 c1_i32_29 k0_t4
  ![0, arg10.toNat]
def k0_off10 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_45 : BitVec 32 := 32#32
  let v41 : BitVec 32 := Scalar.muli v2 c32_i32_45
  let c0_i32_49 : BitVec 32 := 0#32
  ![v41.toNat, 0]
def k0_dev3 (d0 : Dev nD) (k0_t4 : Fin k0_t4_loop.trips) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let c1_i32_29 : BitVec 32 := 1#32
  let arg10 : BitVec 32 := Scf.iv c1_i32_27 c1_i32_29 k0_t4
  let v38 : BitVec 32 := Scalar.addi v2 arg10
  let c32_i32_43 : BitVec 32 := 32#32
  let v39 : BitVec 32 := Scalar.remsi v38 c32_i32_43
  let c1_i32_47 : BitVec 32 := 1#32
  let v42 : BitVec 32 := Scalar.muli v39 c1_i32_47
  let v43 : BitVec 32 := Scalar.addi c0_i32_48 v42
  v43.toNat
@[reducible] def k0_t5_loop : Scf.Loop 32 :=
  let c1_i32_31 : BitVec 32 := 1#32
  let c31_i32_32 : BitVec 32 := 31#32
  let v35 : BitVec 32 := Scalar.addi c1_i32_31 c31_i32_32
  let c1_i32_33 : BitVec 32 := 1#32
  ⟨c1_i32_31, v35, c1_i32_33⟩
def k0_off12 (d0 : Dev nD) (k0_t5 : Fin k0_t5_loop.trips) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_31 : BitVec 32 := 1#32
  let c1_i32_33 : BitVec 32 := 1#32
  let arg10 : BitVec 32 := Scf.iv c1_i32_31 c1_i32_33 k0_t5
  let v38 : BitVec 32 := Scalar.subi v2 arg10
  let c32_i32_43 : BitVec 32 := 32#32
  let v39 : BitVec 32 := Scalar.addi v38 c32_i32_43
  let c32_i32_44 : BitVec 32 := 32#32
  let v40 : BitVec 32 := Scalar.remsi v39 c32_i32_44
  ![0, v40.toNat]
def k0_off13 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_31 : BitVec 32 := 1#32
  let c1_i32_33 : BitVec 32 := 1#32
  let arg10 : BitVec 32 := Scf.iv c1_i32_31 c1_i32_33 k0_t5
  let v38 : BitVec 32 := Scalar.subi v2 arg10
  let c32_i32_43 : BitVec 32 := 32#32
  let v39 : BitVec 32 := Scalar.addi v38 c32_i32_43
  let c32_i32_44 : BitVec 32 := 32#32
  let v40 : BitVec 32 := Scalar.remsi v39 c32_i32_44
  let c32_i32_46 : BitVec 32 := 32#32
  let v42 : BitVec 32 := Scalar.muli v40 c32_i32_46
  let c0_i32_51 : BitVec 32 := 0#32
  ![v42.toNat, 0]
@[reducible] def k0_t6_loop : Scf.Loop 32 :=
  let c1_i32_35 : BitVec 32 := 1#32
  let c31_i32_36 : BitVec 32 := 31#32
  let v36 : BitVec 32 := Scalar.addi c1_i32_35 c31_i32_36
  let c1_i32_37 : BitVec 32 := 1#32
  ⟨c1_i32_35, v36, c1_i32_37⟩
def k0_off14 (k0_t6 : Fin k0_t6_loop.trips) : Fin 2 → Nat :=
  let c0_i32_44 : BitVec 32 := 0#32
  let c1_i32_35 : BitVec 32 := 1#32
  let c1_i32_37 : BitVec 32 := 1#32
  let arg10 : BitVec 32 := Scf.iv c1_i32_35 c1_i32_37 k0_t6
  ![0, arg10.toNat]
@[reducible] def k0_t7_loop : Scf.Loop 32 :=
  let c1_i32_39 : BitVec 32 := 1#32
  let c31_i32_40 : BitVec 32 := 31#32
  let v37 : BitVec 32 := Scalar.addi c1_i32_39 c31_i32_40
  let c1_i32_41 : BitVec 32 := 1#32
  ⟨c1_i32_39, v37, c1_i32_41⟩
def k0_off15 (k0_t7 : Fin k0_t7_loop.trips) : Fin 2 → Nat :=
  let c0_i32 : BitVec 32 := 0#32
  let c1_i32_39 : BitVec 32 := 1#32
  let c1_i32_41 : BitVec 32 := 1#32
  let arg10 : BitVec 32 := Scf.iv c1_i32_39 c1_i32_41 k0_t7
  ![0, arg10.toNat]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x16384 : Shape := ⟨2, ![1024, 16384]⟩
abbrev S16384x1024 : Shape := ⟨2, ![16384, 1024]⟩
abbrev S1024x1024 : Shape := ⟨2, ![1024, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S1024x16384, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Walk.lean ====
/-
# `Walk`: thirty-two devices, each facing the thirty-one others in the same order

Device `c` faces its peers in steps `t = 0, …, 30`: the peer at step `t` is `peer c t = (c + t + 1) mod 32`. Seen from
that peer, `c` is the one at step `t.rev = 30 - t` (`peer_peer_rev`), so the pairs (device, step) are turned around by
one involution, `turn`. This file has that arithmetic, the separating conjunction over all devices as one device's
conjunct and its peers' (`bigSep_around`), families a loop uses up or builds step by step (`todo`, `done`), and the loop
rule for a loop that turns one family into another (`wp_loop_family`). Nothing here speaks of a kernel.
-/
module

public import Idealize.ShloMosaic.Lib.Scf
public import Idealize.ShloMosaic.Lib.Tactic

@[expose] public section

noncomputable section

namespace Cert.Walk

open Idealize.ShloMosaic
open Idealize.SL Idealize.SL.RA Idealize.SL.BI
open scoped Idealize.SL.BI
open Idealize.SL.BI.BIBase Idealize.SL.BI.Laws Idealize.SL.ProofMode Idealize.SL.Sem

/-- The device `c` faces at step `t`. -/
def peer (c : Fin 32) (t : Fin 31) : Fin 32 := ⟨(c.val + t.val + 1) % 32, Nat.mod_lt _ (by decide)⟩

/-- Seen from the device that `c` faces at step `t`, `c` is faced at the reversed step. -/
theorem peer_peer_rev (c : Fin 32) (t : Fin 31) : peer (peer c t) t.rev = c := by
  have h₁ := c.isLt
  have h₂ := t.isLt
  refine Fin.ext ?_
  simp only [peer, Fin.val_rev]
  omega

/-- No device faces itself. -/
theorem peer_ne (c : Fin 32) (t : Fin 31) : peer c t ≠ c := fun h => by
  have h₁ := c.isLt
  have h₂ := t.isLt
  have h₃ := congrArg Fin.val h
  simp only [peer] at h₃
  omega

/-- A device faces different devices at different steps. -/
theorem peer_injective (c : Fin 32) : Function.Injective (peer c) := fun t t' h => by
  have h₀ := c.isLt
  have h₁ := t.isLt
  have h₂ := t'.isLt
  have h₃ := congrArg Fin.val h
  simp only [peer] at h₃
  exact Fin.ext (by omega)

/-- Every other device is faced at some step. -/
theorem exists_peer {c d : Fin 32} (h : d ≠ c) : ∃ t, peer c t = d := by
  have h₀ := c.isLt
  have h₁ := d.isLt
  have h₂ : d.val ≠ c.val := fun e => h (Fin.ext e)
  refine ⟨⟨(d.val + 31 - c.val) % 32, by omega⟩, Fin.ext ?_⟩
  simp only [peer]
  omega

/-- The pairs (device, step) turned around: the faced device, and the step at which it faces back. -/
def turn : Fin 32 × Fin 31 ≃ Fin 32 × Fin 31 where
  toFun x := (peer x.1 x.2, x.2.rev)
  invFun x := (peer x.1 x.2, x.2.rev)
  left_inv x := Prod.ext (peer_peer_rev x.1 x.2) (Fin.rev_rev x.2)
  right_inv x := Prod.ext (peer_peer_rev x.1 x.2) (Fin.rev_rev x.2)

section Families
variable {M : Type} [URA M]

/-- All devices but one are the devices that one faces. -/
theorem univ_erase_eq (c : Fin 32) : Finset.univ.erase c = Finset.univ.map ⟨peer c, peer_injective c⟩ := by
  ext d
  simp only [Finset.mem_erase, Finset.mem_univ, and_true, Finset.mem_map, true_and, Function.Embedding.coeFn_mk]
  exact ⟨exists_peer, fun ⟨t, ht⟩ => ht ▸ peer_ne c t⟩

/-- A family over the devices is device `c`'s member and, step by step, its peers'. -/
theorem bigSep_around (c : Fin 32) (Φ : Fin 32 → sProp M) :
    bigSep Finset.univ Φ = iprop(Φ c ∗ bigSep Finset.univ fun t => Φ (peer c t)) := by
  rw [bigSep_univ_at Φ c, univ_erase_eq, BI.bigSep_map]; rfl

/-- A family over the steps read in the reversed order. -/
theorem bigSep_rev (Φ : Fin 31 → sProp M) :
    bigSep Finset.univ Φ = bigSep Finset.univ fun t => Φ (Fin.rev t) :=
  BI.bigSep_univ_equiv Fin.revPerm Φ

/-- What every device holds towards each of its peers, dealt to the peers: the same family, turned around. -/
theorem bigSep_turn (Φ : Fin 32 → Fin 31 → sProp M) :
    (bigSep Finset.univ fun c => bigSep Finset.univ fun t => Φ c t)
      = bigSep Finset.univ fun c => bigSep Finset.univ fun t => Φ (peer c t) t.rev := by
  rw [← BI.bigSep_univ_prod (fun x : Fin 32 × Fin 31 => Φ x.1 x.2), BI.bigSep_univ_equiv turn,
    BI.bigSep_univ_prod]
  rfl

/-- The members of a family of the steps from `n` on: what a loop has still to use. -/
def todo (n : ℕ) (Φ : Fin 31 → sProp M) : sProp M := bigSep (Finset.univ.filter fun t : Fin 31 => n ≤ t.val) Φ

/-- The members of a family of the steps below `n`: what a loop has built. -/
def done (n : ℕ) (Φ : Fin 31 → sProp M) : sProp M := bigSep (Finset.univ.filter fun t : Fin 31 => t.val < n) Φ

/-- At the start all is to do, -/
theorem todo_zero (Φ : Fin 31 → sProp M) : todo 0 Φ = bigSep Finset.univ Φ := by
  unfold todo; rw [Finset.filter_true_of_mem fun t _ => Nat.zero_le _]

/-- and nothing is done; -/
theorem done_zero (Φ : Fin 31 → sProp M) : done 0 Φ = iprop(emp) := by
  unfold done; rw [Finset.filter_false_of_mem fun t _ => Nat.not_lt_zero _]; rfl

/-- after 31 steps all is done. -/
theorem done_all (Φ : Fin 31 → sProp M) : done 31 Φ = bigSep Finset.univ Φ := by
  unfold done; rw [Finset.filter_true_of_mem fun t _ => t.isLt]

/-- The steps from `t` on are `t` and the steps after it; -/
theorem from_eq (t : Fin 31) :
    (Finset.univ.filter fun u : Fin 31 => t.val ≤ u.val) = insert t (Finset.univ.filter fun u : Fin 31 => t.val + 1 ≤ u.val) := by
  ext u
  simp only [Finset.mem_filter, Finset.mem_univ, true_and, Finset.mem_insert, Fin.ext_iff]
  omega

/-- the steps up to `t` are `t` and the steps before it. -/
theorem below_eq (t : Fin 31) :
    (Finset.univ.filter fun u : Fin 31 => u.val < t.val + 1) = insert t (Finset.univ.filter fun u : Fin 31 => u.val < t.val) := by
  ext u
  simp only [Finset.mem_filter, Finset.mem_univ, true_and, Finset.mem_insert, Fin.ext_iff]
  omega

/-- Step `t` takes its own member. -/
theorem todo_step (t : Fin 31) (Φ : Fin 31 → sProp M) : todo t.val Φ = iprop(Φ t ∗ todo (t.val + 1) Φ) := by
  unfold todo
  rw [from_eq, BI.bigSep_insert fun h => absurd (Finset.mem_filter.mp h).2 (by omega)]
  rfl

/-- Step `t` adds its own member. -/
theorem done_step (t : Fin 31) (Φ : Fin 31 → sProp M) : done (t.val + 1) Φ = iprop(Φ t ∗ done t.val Φ) := by
  unfold done
  rw [below_eq, BI.bigSep_insert fun h => absurd (Finset.mem_filter.mp h).2 (by omega)]
  rfl

end Families

/-- The sum of a step-indexed amount over the steps from `n` on: what is still owed before step `n`. -/
def due {A : Type} [AddCommMonoid A] (f : Fin 31 → A) (n : ℕ) : A := ∑ t ∈ Finset.univ.filter (fun t : Fin 31 => n ≤ t.val), f t

/-- Before step `t`, what is owed after it and step `t`'s own amount. -/
theorem due_step {A : Type} [AddCommMonoid A] (f : Fin 31 → A) (t : Fin 31) : due f t.val = due f (t.val + 1) + f t := by
  unfold due
  rw [from_eq, Finset.sum_insert fun h => absurd (Finset.mem_filter.mp h).2 (by omega), add_comm]

/-- After the last step nothing is owed. -/
theorem due_end {A : Type} [AddCommMonoid A] (f : Fin 31 → A) : due f 31 = 0 := by
  unfold due
  rw [Finset.filter_false_of_mem fun t _ => Nat.not_le.mpr t.isLt, Finset.sum_empty]

/-- Before the first step everything is owed. -/
theorem due_zero {A : Type} [AddCommMonoid A] (f : Fin 31 → A) : due f 0 = ∑ t, f t := by
  unfold due; rw [Finset.filter_true_of_mem fun t _ => Nat.zero_le _]

section Rule
universe v
variable {w : Nat} {E : Type → Type v}
variable {M : Type} [URA M] {Mask : Type} (Fr : Mask → sProp M) (wpE : Mask → ∀ ⦃β : Type⦄, E β → sWPT M β) (Es : Mask)
variable [∀ ⦃β : Type⦄ (e : E β), sWPT.Frameable (wpE Es e)]

/-- A loop of thirty-one trips that at step `t` turns `Φ t` into `Ψ t`, under an assertion `R n` about how many steps
    are done, turns the family `Φ` into the family `Ψ` and takes `R` from 0 to 31. -/
theorem wp_loop_family (l : Scf.Loop w) (hok : l.OK) (hn : l.trips = 31) (body : Fin l.trips → Unit → Prog E Unit)
    (R : ℕ → sProp M) (Φ Ψ : Fin 31 → sProp M)
    (hbody : ∀ t : Fin l.trips, iprop(R t.val ∗ Φ (t.cast hn)) ⊢ wp Fr wpE Es (body t ⟨⟩) fun _ => iprop(R (t.val + 1) ∗ Ψ (t.cast hn)))
    {β : Type} {k : Unit → Prog E β} {Q : β → sProp M} :
    iprop(R 0 ∗ bigSep Finset.univ Φ)
      ⊢ iprop((R 31 ∗ bigSep Finset.univ Ψ -∗ wp Fr wpE Es (k ⟨⟩) Q) -∗ wp Fr wpE Es (Scf.Loop.for l hok ⟨⟩ body >>= k) Q) := by
  have hstep : ∀ (t : Fin l.trips) (acc : Unit),
      (fun (n : ℕ) (_ : Unit) => iprop(R n ∗ todo n Φ ∗ done n Ψ)) t.val acc
        ⊢ wp Fr wpE Es (body t acc) ((fun (n : ℕ) (_ : Unit) => iprop(R n ∗ todo n Φ ∗ done n Ψ)) (t.val + 1)) := by
    intro t acc
    show iprop(R t.val ∗ todo (t.cast hn).val Φ ∗ done t.val Ψ)
      ⊢ wp Fr wpE Es (body t ⟨⟩) (fun _ => iprop(R (t.val + 1) ∗ todo (t.val + 1) Φ ∗ done ((t.cast hn).val + 1) Ψ))
    rw [todo_step, done_step]
    iintro ⟨HR, ⟨Ht, Hrest⟩, Hdone⟩
    iapply (wp_wand_r Fr wpE Es)
    isplitl [HR Ht]
    · iapply (hbody t)
      isplitl [HR] <;> iassumption
    · iintro %_ ⟨HR, Ht⟩
      isplitl [HR]; · iexact HR
      isplitl [Hrest]; · iexact Hrest
      isplitl [Ht]; · iexact Ht
      iexact Hdone
  iintro ⟨HR, HΦ⟩ HK
  iapply (Scf.wp_for_bind Fr wpE Es l.lb l.ub l.st hok ⟨⟩ body (fun n _ => iprop(R n ∗ todo n Φ ∗ done n Ψ)) hstep) $$ [HR HΦ]
  · isplitl [HR]; · iexact HR
    isplitl [HΦ]
    · rw [todo_zero]; iexact HΦ
    · rw [done_zero]; iempintro
  iintro %acc H
  rw [show Scf.trips l.lb l.ub l.st = 31 from hn, done_all]
  icases H with ⟨HR, -, HΨ⟩
  iapply HK
  isplitl [HR] <;> iassumption

end Rule

end Cert.Walk

end
-- ==== Proof.KernelIdealContents.lean ====
/-
# `KernelIdealContents`: what the kernel's buffers hold, and the pieces they are handed over in

Device `c` multiplies its block of `A` by its block of `B` into `sendbuf` (`partial_`): a 1024×1024 partial product, 32 rows of
which belong to each device. Rows `32 d … 32 d + 31` (`slab`) go to device `d`, into slot `c` of its `recvbuf` (`gathered`).
Device `c` adds the slabs in a fixed order (`total`), applies the activation (`result`), and sends its 32 rows to every
device: every device ends with the same 1024×1024 array (`output`).

The file names these contents, the row blocks of the 1024×1024 buffers and the slots of `recvbuf`, as element sets and as the
views the kernel's transfers go through, and says what each view reads and what each transfer leaves.
-/
module

public import proofs.«01_k».proof.Proof.Walk
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdealProof

open Cert.KernelIdeal Cert.KernelIdeal.Gen Cert.Walk
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Row blocks and slots -/

/-- Row block `d` of a 1024×1024 buffer lies inside it. -/
theorem row_inb (d : Fin 32) : ∀ a, (![32 * d.val, 0] : Fin 2 → Nat) a + S32x1024.size a ≤ S1024x1024.size a := by
  have := d.isLt
  intro a; fin_cases a
  · show 32 * d.val + 32 ≤ 1024; omega
  · show 0 + 1024 ≤ 1024; omega

/-- Slot `s` of the receive buffer lies inside it. -/
theorem slot_inb (s : Fin 32) : ∀ a, (![0, s.val, 0, 0] : Fin 4 → Nat) a + S1x1x32x1024.size a ≤ S1x32x32x1024.size a := by
  have := s.isLt
  intro a; fin_cases a
  · show 0 + 1 ≤ 1; omega
  · show s.val + 1 ≤ 32; omega
  · show 0 + 32 ≤ 32; omega
  · show 0 + 1024 ≤ 1024; omega

/-- Rows `32 d … 32 d + 31`. -/
def rowRect (d : Fin 32) : Rect S1024x1024 := Rect.unit (s := S1024x1024) ![32 * d.val, 0] S32x1024.size (row_inb d)

/-- Slot `s` of the receive buffer. -/
def slotRect (s : Fin 32) : Rect S1x32x32x1024 := Rect.unit (s := S1x32x32x1024) ![0, s.val, 0, 0] S1x1x32x1024.size (slot_inb s)

/-- The row blocks of two devices are disjoint, -/
theorem row_disjoint (d d' : Fin 32) (h : d ≠ d') : Disjoint (rowRect d).set (rowRect d').set :=
  Ring.lead_disjoint (s := S1024x1024) (NB := 32) 0 32 (fun d => ![32 * d.val, 0]) S32x1024.size row_inb (fun _ => rfl) rfl d d' h

/-- and together they are the whole buffer. -/
theorem row_cover : Finset.univ.biUnion (fun d => (rowRect d).set) = Finset.univ :=
  Ring.lead_cover (s := S1024x1024) (NB := 32) 0 32 (fun d => ![32 * d.val, 0]) S32x1024.size row_inb (fun _ => rfl)
    (fun _ a ha => by fin_cases a <;> first | exact absurd rfl ha | rfl) rfl
    (fun a ha => by fin_cases a <;> first | exact absurd rfl ha | rfl) rfl

/-- Two slots are disjoint, -/
theorem slot_disjoint (d d' : Fin 32) (h : d ≠ d') : Disjoint (slotRect d).set (slotRect d').set :=
  Ring.lead_disjoint (s := S1x32x32x1024) (NB := 32) 1 1 (fun d => ![0, d.val, 0, 0]) S1x1x32x1024.size slot_inb (fun b => (Nat.one_mul b.val).symm) rfl d d' h

/-- and together they are the whole receive buffer. -/
theorem slot_cover : Finset.univ.biUnion (fun d => (slotRect d).set) = Finset.univ :=
  Ring.lead_cover (s := S1x32x32x1024) (NB := 32) 1 1 (fun d => ![0, d.val, 0, 0]) S1x1x32x1024.size slot_inb (fun b => (Nat.one_mul b.val).symm)
    (fun _ a ha => by fin_cases a <;> first | exact absurd rfl ha | rfl) rfl
    (fun a ha => by fin_cases a <;> first | exact absurd rfl ha | rfl) rfl

/-- Row block `d` of the send buffer and of the result's buffer, and slot `s` of the receive buffer, as the kernel's
    transfers name them. -/
abbrev sendMem (d : Fin 32) : Memref sig .tc .vmem S32x1024 .bf16 := (Memref.whole cc0_scratch0).slice (rowRect d) (fun _ => rfl)
/-- The same of the result's buffer. -/
abbrev outMem (d : Fin 32) : Memref sig .tc .vmem S32x1024 .bf16 := (Memref.whole cc0_stg2_0).slice (rowRect d) (fun _ => rfl)
/-- Slot `s` of the receive buffer, as 32 rows. -/
abbrev slotMem (s : Fin 32) : Memref sig .tc .vmem S32x1024 .bf16 :=
  ((Memref.whole cc0_scratch1).slice (slotRect s) (fun _ => rfl)).squeeze S32x1024 squeezes_S1x1x32x1024_S32x1024

/-- The elements of each of these views. -/
theorem sendMem_set (d : Fin 32) : (sendMem d).view.set = (rowRect d).set := View.set_slice_whole cc0_scratch0 (rowRect d)
/-- Of the result's buffer: the rows. -/
theorem outMem_set (d : Fin 32) : (outMem d).view.set = (rowRect d).set := View.set_slice_whole cc0_stg2_0 (rowRect d)
/-- Of the receive buffer: the slot. -/
theorem slotMem_set (s : Fin 32) : (slotMem s).view.set = (slotRect s).set :=
  (View.set_reshape _ _).trans (View.set_slice_whole cc0_scratch1 (slotRect s))

/-! ## Coordinates -/

/-- The row and column of an element of the receive buffer within its slot. -/
def inSlot (i : S1x32x32x1024.Idx) : S32x1024.Idx := fun a => match a with
  | ⟨0, _⟩ => i 2
  | ⟨1, _⟩ => i 3

/-- Device `d`'s rows hold row `32 d + x 0`. -/
theorem rowRect_emb_val (d : Fin 32) (x : S32x1024.Idx) (a : Fin 2) :
    ((rowRect d).emb x a).val = (![32 * d.val, 0] : Fin 2 → Nat) a + (x a).val := by
  show (![32 * d.val, 0] : Fin 2 → Nat) a + 1 * (x a).val = _
  rw [Nat.one_mul]

/-- Where a row and column of slot `s` are in the receive buffer, axis by axis. -/
theorem slotMem_emb_val (s : Fin 32) (x : S32x1024.Idx) (a : Fin 4) :
    ((slotMem s).view.emb x a).val
      = (![0, s.val, 0, 0] : Fin 4 → Nat) a + (Shape.reshapeEquiv squeezes_S1x1x32x1024_S32x1024.numel_eq x a).val := by
  show (![0, s.val, 0, 0] : Fin 4 → Nat) a + 1 * (Shape.reshapeEquiv squeezes_S1x1x32x1024_S32x1024.numel_eq x a).val = _
  rw [Nat.one_mul]

/-- A row and column as an element of a single slot. -/
def lift4 (x : S32x1024.Idx) : S1x1x32x1024.Idx := fun a => match a with
  | ⟨0, _⟩ => (0 : Fin 1)
  | ⟨1, _⟩ => (0 : Fin 1)
  | ⟨2, _⟩ => x 0
  | ⟨3, _⟩ => x 1

/-- Dropping the two leading axes of extent one keeps row and column. -/
theorem squeeze_eq (x : S32x1024.Idx) : Shape.reshapeEquiv squeezes_S1x1x32x1024_S32x1024.numel_eq x = lift4 x := by
  refine Shape.reshapeEquiv_eq_of_rowMajor _ ?_
  rw [Shape.rowMajor_val_four, Shape.rowMajor_val_two]
  show ((0 * 1 + 0) * 32 + (x 0).val) * 1024 + (x 1).val = (x 0).val * 1024 + (x 1).val
  omega

/-- An element of slot `s`, read back: its slot, and its row and column. -/
theorem slotMem_emb_one (s : Fin 32) (x : S32x1024.Idx) : (slotMem s).view.emb x 1 = s := by
  refine Fin.ext ?_
  rw [slotMem_emb_val, squeeze_eq]
  rfl

/-- Its row and column are those it was placed by. -/
theorem inSlot_slotMem_emb (s : Fin 32) (x : S32x1024.Idx) : inSlot ((slotMem s).view.emb x) = x := by
  funext a
  refine Fin.ext ?_
  fin_cases a
  · show ((slotMem s).view.emb x 2).val = _
    rw [slotMem_emb_val, squeeze_eq]
    show 0 + (x 0).val = _
    rw [Nat.zero_add]; rfl
  · show ((slotMem s).view.emb x 3).val = _
    rw [slotMem_emb_val, squeeze_eq]
    show 0 + (x 1).val = _
    rw [Nat.zero_add]; rfl

/-- The device an element of the result belongs to, and its row and column among that device's rows. -/
def owner (i : S1024x1024.Idx) : Fin 32 := ⟨(i 0).val / 32, by
  have : (i 0).val < 1024 := (i 0).isLt
  omega⟩
/-- Its row and column among its owner's rows. -/
def inRows (i : S1024x1024.Idx) : S32x1024.Idx := fun a => match a with
  | ⟨0, _⟩ => (⟨(i 0).val % 32, Nat.mod_lt _ (by decide)⟩ : Fin 32)
  | ⟨1, _⟩ => i 1

/-- An element placed among device `d`'s rows belongs to `d`, -/
theorem owner_rowRect_emb (d : Fin 32) (x : S32x1024.Idx) : owner ((rowRect d).emb x) = d := by
  refine Fin.ext ?_
  show ((rowRect d).emb x 0).val / 32 = d.val
  rw [rowRect_emb_val]
  show (32 * d.val + (x 0).val) / 32 = d.val
  have : (x 0).val < 32 := (x 0).isLt
  omega

/-- and its row and column are those it was placed by. -/
theorem inRows_rowRect_emb (d : Fin 32) (x : S32x1024.Idx) : inRows ((rowRect d).emb x) = x := by
  funext a
  refine Fin.ext ?_
  fin_cases a
  · show ((rowRect d).emb x 0).val % 32 = _
    rw [rowRect_emb_val]
    show (32 * d.val + (x 0).val) % 32 = (x 0).val
    have : (x 0).val < 32 := (x 0).isLt
    omega
  · show ((rowRect d).emb x 1).val = _
    rw [rowRect_emb_val]
    show 0 + (x 1).val = _
    rw [Nat.zero_add]; rfl

/-! ## Contents -/

section Contents
variable (m : (ℓ : Loc nD τ sig) → Buf (Elt F) ℓ)

/-- Device `c`'s blocks of the two operands. -/
def inA (c : Dev nD) : Vec F S1024x512 .bf16 := m ((c : Thread nD τ).loc main_arg0)
/-- Device `c`'s block of the second operand. -/
def inB (c : Dev nD) : Vec F S512x1024 .bf16 := m ((c : Thread nD τ).loc main_arg1)

/-- Device `c`'s partial product. -/
def partial_ (c : Dev nD) : Vec F S1024x1024 .bf16 := k0_pay2 (inA m c) (inB m c)

/-- Device `d`'s rows of device `s`'s partial product. -/
def slab (s d : Dev nD) : Vec F S32x1024 .bf16 := fun x => partial_ m s ((rowRect d).emb x)

/-- The receive buffer of device `d` once every slab has landed: slot `s` holds device `s`'s. -/
def gathered (d : Dev nD) : (cc0_scratch1 : Ref sig .tc).ty.Contents (Elt F) :=
  fun i : S1x32x32x1024.Idx => slab m (i 1) d (inSlot i)

/-- The device whose slab device `c` adds as its `n`-th. -/
def source (c : Dev nD) (n : ℕ) : Dev nD := ⟨(c.val + 31 - n) % 32, Nat.mod_lt _ (by decide)⟩

/-- A slab as the kernel loads it from its slot. -/
def lifted (v : Vec F S32x1024 .bf16) : Vec F S1x1x32x1024 .bf16 := fun y => v fun a => match a with
  | ⟨0, _⟩ => y 2
  | ⟨1, _⟩ => y 3

/-- Device `c`'s sum after its own slab and `n` others. -/
def total (c : Dev nD) : ℕ → Vec F S32x1024 .f32
  | 0 => k0_pay3 (slab m c c)
  | n + 1 => k0_pay4 (total c n) (lifted (slab m (source c n) c))

/-- Device `c`'s 32 rows of the result. -/
def result (c : Dev nD) : Vec F S32x1024 .bf16 := k0_pay1 (total m c 31)

/-- The whole result, the same on every device. -/
def output : (cc0_stg2_0 : Ref sig .tc).ty.Contents (Elt F) :=
  fun i : S1024x1024.Idx => result m (owner i) (inRows i)

/-- The device faced at the reversed step is the next one to be added. -/
theorem peer_rev_eq (c : Dev nD) (t : Fin 31) : peer c t.rev = source c t.val := by
  have h := t.isLt
  refine Fin.ext ?_
  simp only [peer, source, Fin.val_rev]
  congr 1
  omega

/-! ## What the views read and the transfers leave -/

/-- Slot `s` of device `d`, once device `s`'s rows for `d` have been written into it. -/
theorem slab_lands (s d : Dev nD) (fd : (cc0_scratch1 : Ref sig .tc).ty.Contents (Elt F)) :
    ∀ i ∈ (slotRect s).set,
      (slotMem s).view.write (Elt F) fd ((sendMem d).view.read (Elt F) (partial_ m s)) Finset.univ i = gathered m d i := by
  intro i hi
  rw [← slotMem_set] at hi
  obtain ⟨x, _, rfl⟩ := Finset.mem_map.mp hi
  rw [View.write_emb_of_mem _ _ (Finset.mem_univ x)]
  show partial_ m s ((rowRect d).emb x) = slab m ((slotMem s).view.emb x 1) d (inSlot ((slotMem s).view.emb x))
  rw [slotMem_emb_one, inSlot_slotMem_emb]
  rfl

/-- A slot of the receive buffer, loaded. -/
theorem load_slot (s d : Dev nD) :
    (Memref.whole cc0_scratch1 : Memref sig .tc .vmem S1x32x32x1024 .bf16).view.readAt (Elt F) (slotRect s).toLoadRect (gathered m d)
      = lifted (slab m s d) := by
  funext y
  show slab m ((slotRect s).emb y 1) d (inSlot ((slotRect s).emb y)) = _
  have hv : ∀ a : Fin 4, ((slotRect s).emb y a).val = (![0, s.val, 0, 0] : Fin 4 → Nat) a + (y a).val := fun a => by
    show (![0, s.val, 0, 0] : Fin 4 → Nat) a + 1 * (y a).val = _
    rw [Nat.one_mul]
  have h1 : (slotRect s).emb y 1 = s := Fin.ext (by
    rw [hv]
    show s.val + (y 1).val = s.val
    have : (y 1).val < 1 := (y 1).isLt
    omega)
  rw [h1]
  unfold lifted
  congr 1
  funext a
  refine Fin.ext ?_
  fin_cases a
  · show ((slotRect s).emb y 2).val = (y 2).val
    rw [hv]; exact Nat.zero_add _
  · show ((slotRect s).emb y 3).val = (y 3).val
    rw [hv]; exact Nat.zero_add _

/-- A device's own rows of its partial product, loaded. -/
theorem load_rows (c d : Dev nD) :
    (Memref.whole cc0_scratch0 : Memref sig .tc .vmem S1024x1024 .bf16).view.readAt (Elt F) (rowRect d).toLoadRect (partial_ m c)
      = slab m c d := rfl

/-- The result at device `c`'s rows. -/
theorem output_rowRect_emb (c : Dev nD) (x : S32x1024.Idx) : output m ((rowRect c).emb x) = result m c x :=
  congrArg₂ (result m) (owner_rowRect_emb c x) (inRows_rowRect_emb c x)

/-- Device `c`'s rows of the result's buffer, once it has stored them. -/
theorem store_rows (c : Dev nD) (f : (cc0_stg2_0 : Ref sig .tc).ty.Contents (Elt F)) :
    ∀ i ∈ (rowRect c).set,
      ((Memref.whole cc0_stg2_0 : Memref sig .tc .vmem S1024x1024 .bf16).access (rowRect c)).write (Elt F) f (result m c) Finset.univ i = output m i := by
  intro i hi
  rw [← Rect.map_emb_univ] at hi
  obtain ⟨x, _, rfl⟩ := Finset.mem_map.mp hi
  refine (View.write_emb_of_mem (v := (Memref.whole cc0_stg2_0 : Memref sig .tc .vmem S1024x1024 .bf16).access (rowRect c)) (Val := Elt F) f (result m c) (Finset.mem_univ x)).trans ?_
  exact (output_rowRect_emb m c x).symm

/-- A peer's copy of device `c`'s rows, once they have been written there. -/
theorem rows_land (c : Dev nD) (fd : (cc0_stg2_0 : Ref sig .tc).ty.Contents (Elt F)) :
    ∀ i ∈ (rowRect c).set,
      (outMem c).view.write (Elt F) fd ((outMem c).view.read (Elt F) (output m)) Finset.univ i = output m i := by
  intro i hi
  rw [← outMem_set] at hi
  rw [View.write_read_eq_piecewise, Finset.piecewise_eq_of_mem _ _ _ (by exact hi)]

end Contents

end Cert.KernelIdealProof

end
-- ==== Proof.KernelIdealProtocol.lean ====
/-
# `KernelIdealProtocol`: who signals whom, and what each signal hands over

Every device has 125 semaphore cells in use: its entry barrier, and for each of its 31 peers one cell in each of four arrays —
the send and receive semaphores of the reduce-scatter (families 0 and 1) and of the all-gather (families 2 and 3). A cell is
named by its device and, but for the barrier, its family and the step at which the device faces the peer concerned.

Each cell is used for one round. The barrier's round has 31 duties of one unit, one from each peer; a peer's unit hands over
that peer's slot for this device and that peer's copy of this device's rows of the result. The round of every other cell has
one duty, a whole transfer: a receive cell's hands over what has landed, a send cell's gives back what was read.

What a device owes at the start is its 31 units and its 62 transfers; the levels order the waits: barrier, then the
reduce-scatter's receive cells, then the all-gather's.
-/
module

public import proofs.«01_k».proof.Proof.KernelIdealContents

@[expose] public section

noncomputable section

namespace Cert.KernelIdealProof

open Cert.KernelIdeal Cert.KernelIdeal.Gen Cert.Walk
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's, and the rounds of this kernel's cells, duties named by steps. -/
abbrev UB : Type := URounds (GSem nD τ sig) (Fin 31)
/-- Both together. -/
abbrev UU : Type := UR sig nD τ × UB

local notation "𝕄" => MT nD τ sig Unit (Elt F) ℕ UU ℕ

/-- Where the pipeline's ghost state is in the whole, -/
abbrev EP : Emb (UR sig nD τ) (MT nD τ sig Unit (Elt F) ℕ UU ℕ) := embL
/-- and where the rounds' is. -/
abbrev ER : Emb UB (MT nD τ sig Unit (Elt F) ℕ UU ℕ) := embR

/-! ## Semaphores and cells -/

/-- The runtime's entry barrier. -/
abbrev barS : Sem sig := (SemArray.scalar (sig.barrier 0 rfl) : Sems sig S_).sem

/-- Semaphore `i` of array `k`. -/
def dsem (k : Fin 4) (i : Fin 32) : DmaSem sig := ⟨3 + 32 * k.val + i.val, by
  have := k.isLt
  have := i.isLt
  show _ < 131
  omega⟩

/-- Different positions are different semaphores. -/
theorem dsem_injective : Function.Injective fun x : Fin 4 × Fin 32 => dsem x.1 x.2 := fun x y h => by
  have h₁ := x.2.isLt
  have h₂ := y.2.isLt
  have h₃ : 3 + 32 * x.1.val + x.2.val = 3 + 32 * y.1.val + y.2.val := congrArg Fin.val h
  exact Prod.ext (Fin.ext (by omega)) (Fin.ext (by omega))

/-- The printed semaphore at position `off 1` of an array that starts at `base`. -/
theorem sem_val {base : ℕ} {h : base + S1x32.numel ≤ 131} {off : Fin 2 → ℕ} {inb : ∀ a, off a + S1x1.size a ≤ S1x32.size a} (i : Fin 32)
    (ho : off = ![0, i.val]) :
    (((SemArray.consecutive base S1x32 h).slice (Rect.unit (s := S1x32) off S1x1.size inb)).squeeze S_ squeezes_S1x1_S_).sem.val = base + i.val := by
  subst ho
  show base + (S1x32.rowMajor ((Rect.unit (s := S1x32) ![0, i.val] S1x1.size inb).emb
    (Shape.reshapeEquiv squeezes_S1x1_S_.numel_eq fun a => a.elim0))).val = base + i.val
  rw [Shape.rowMajor_val_two]
  generalize Shape.reshapeEquiv squeezes_S1x1_S_.numel_eq (fun a => a.elim0) = y
  have h0 : (y 0).val < 1 := (y 0).isLt
  have h1 : (y 1).val < 1 := (y 1).isLt
  show base + ((0 + 1 * (y 0).val) * 32 + (i.val + 1 * (y 1).val)) = base + i.val
  omega

/-- The printed semaphores of the first array are family 0, -/
theorem sem_scratch3 {off : Fin 2 → ℕ} {inb : ∀ a, off a + S1x1.size a ≤ S1x32.size a} (i : Fin 32) (ho : off = ![0, i.val]) :
    ((cc0_scratch3.slice (Rect.unit (s := S1x32) off S1x1.size inb)).squeeze S_ squeezes_S1x1_S_).sem = dsem 0 i := Fin.ext (sem_val i ho)
/-- of the second family 1, -/
theorem sem_scratch4 {off : Fin 2 → ℕ} {inb : ∀ a, off a + S1x1.size a ≤ S1x32.size a} (i : Fin 32) (ho : off = ![0, i.val]) :
    ((cc0_scratch4.slice (Rect.unit (s := S1x32) off S1x1.size inb)).squeeze S_ squeezes_S1x1_S_).sem = dsem 1 i := Fin.ext (sem_val i ho)
/-- of the third family 2, -/
theorem sem_scratch5 {off : Fin 2 → ℕ} {inb : ∀ a, off a + S1x1.size a ≤ S1x32.size a} (i : Fin 32) (ho : off = ![0, i.val]) :
    ((cc0_scratch5.slice (Rect.unit (s := S1x32) off S1x1.size inb)).squeeze S_ squeezes_S1x1_S_).sem = dsem 2 i := Fin.ext (sem_val i ho)
/-- of the fourth family 3. -/
theorem sem_scratch6 {off : Fin 2 → ℕ} {inb : ∀ a, off a + S1x1.size a ≤ S1x32.size a} (i : Fin 32) (ho : off = ![0, i.val]) :
    ((cc0_scratch6.slice (Rect.unit (s := S1x32) off S1x1.size inb)).squeeze S_ squeezes_S1x1_S_).sem = dsem 3 i := Fin.ext (sem_val i ho)

/-- The position of family `k` that device `c` does not use: its own among the receive semaphores, 0 among the send ones. -/
def home (k : Fin 4) (c : Dev nD) : Fin 32 := if k.val % 2 = 1 then c else 0

/-- The cell of device `c` in family `k` for the peer it faces at step `u`; -/
abbrev cell (c : Dev nD) (k : Fin 4) (u : Fin 31) : GSem nD τ sig := ((c : Thread nD τ), .dma (dsem k (peer (home k c) u)))
/-- its barrier cell; -/
abbrev barCell (c : Dev nD) : GSem nD τ sig := ((c : Thread nD τ), .reg barS)
/-- all of them under one name. -/
def kcell : Dev nD × Option (Fin 4 × Fin 31) → GSem nD τ sig
  | (c, none) => barCell c
  | (c, some (k, u)) => cell c k u

/-- Different names are different cells. -/
theorem kcell_injective : Function.Injective kcell := by
  rintro ⟨c, x⟩ ⟨d, y⟩ h
  have hc : c = d := by
    have h₁ : (kcell (c, x)).1 = (kcell (d, y)).1 := congrArg Prod.fst h
    rcases x with _ | ⟨k, u⟩ <;> rcases y with _ | ⟨l, v⟩ <;> exact congrArg Prod.fst h₁
  subst hc
  have h₂ : (kcell (c, x)).2 = (kcell (c, y)).2 := congrArg Prod.snd h
  rcases x with _ | ⟨k, u⟩ <;> rcases y with _ | ⟨l, v⟩
  · rfl
  · exact absurd h₂ (by intro h; cases h)
  · exact absurd h₂ (by intro h; cases h)
  · have h₃ := dsem_injective (a₁ := (k, peer (home k c) u)) (a₂ := (l, peer (home l c) v)) (SemLoc.dma.inj h₂)
    obtain ⟨rfl, h₄⟩ := Prod.mk.inj h₃
    rw [peer_injective _ h₄]

/-- The bytes' credit of one transfer: 32 rows. -/
abbrev N : ℕ := (slotMem 0).view.dmaCredit
/-- It is not zero, -/
theorem N_pos : 0 < N := View.dmaCredit_pos _ (by decide)
/-- and the same for 32 rows of the result, -/
theorem N_out (d : Fin 32) : (outMem d).view.dmaCredit = N := rfl
/-- of the send buffer, -/
theorem N_send (d : Fin 32) : (sendMem d).view.dmaCredit = N := rfl
/-- and of any slot. -/
theorem N_slot (d : Fin 32) : (slotMem d).view.dmaCredit = N := rfl

/-! ## Pieces of buffers -/

/-- Slot `s` of device `d`'s receive buffer. -/
def slotPts (d : Dev nD) (s : Fin 32) (f : (cc0_scratch1 : Ref sig .tc).ty.Contents (Elt F)) : sProp 𝕄 :=
  (slotMem s).view.loc (d : Thread nD τ) ↦[(slotMem s).view.set]{fullShare} f
/-- Row block `b` of device `d`'s send buffer. -/
def sendPts (d : Dev nD) (b : Fin 32) (f : (cc0_scratch0 : Ref sig .tc).ty.Contents (Elt F)) : sProp 𝕄 :=
  (sendMem b).view.loc (d : Thread nD τ) ↦[(sendMem b).view.set]{fullShare} f
/-- A share of row block `b` of device `d`'s result buffer. -/
def outPts (d : Dev nD) (b : Fin 32) (q : PosShare TreeShare) (f : (cc0_stg2_0 : Ref sig .tc).ty.Contents (Elt F)) : sProp 𝕄 :=
  (outMem b).view.loc (d : Thread nD τ) ↦[(outMem b).view.set]{q} f
/-- One of 31 equal shares. -/
def piece (t : Fin 31) : PosShare TreeShare := pieceOf fullShare 31 (by decide) t

/-- Each of these pieces may be handed over through a semaphore: a slot, -/
instance slotPts_storable (d : Dev nD) (s) (f) : BI.Storable (upEmb : UEmb _ 𝕄) (slotPts (F := F) d s f) := by unfold slotPts; infer_instance
/-- a row block of the send buffer, -/
instance sendPts_storable (d : Dev nD) (s) (f) : BI.Storable (upEmb : UEmb _ 𝕄) (sendPts (F := F) d s f) := by unfold sendPts; infer_instance
/-- a share of a row block of the result. -/
instance outPts_storable (d : Dev nD) (s) (q) (f) : BI.Storable (upEmb : UEmb _ 𝕄) (outPts (F := F) d s q f) := by unfold outPts; infer_instance

/-! ## The schedule -/

section Schedule
variable (m : (ℓ : Loc nD τ sig) → Buf (Elt F) ℓ)

/-- What the unit from the peer at step `u` hands device `d`: that peer's slot `d`, and its copy of `d`'s rows. -/
def barPay (d : Dev nD) (u : Fin 31) : sProp 𝕄 :=
  iprop((∃ f, slotPts (F := F) (peer d u) d f) ∗ ∃ f, outPts (F := F) (peer d u) d fullShare f)

/-- What the transfer of family `k` at step `u` hands device `c` as it waits for it. -/
def xferPay (c : Dev nD) (k : Fin 4) (u : Fin 31) : sProp 𝕄 := match k with
  | 0 => sendPts c (peer c u) (partial_ m c)
  | 1 => slotPts c (peer c u) (gathered m c)
  | 2 => outPts c c (piece u) (output m)
  | 3 => outPts c (peer c u) fullShare (output m)

/-- The duties of a cell's round: one from every peer at a barrier, otherwise one. -/
def cellDuties : Dev nD × Option (Fin 4 × Fin 31) → Finset (Fin 31)
  | (_, none) => Finset.univ
  | (_, some (_, u)) => {u}
/-- What each is worth: a unit, or a transfer's credit. -/
def cellAmount : Dev nD × Option (Fin 4 × Fin 31) → ℕ
  | (_, none) => 1
  | (_, some _) => N
/-- What each hands over. -/
def cellPay (u : Fin 31) : Dev nD × Option (Fin 4 × Fin 31) → sProp 𝕄
  | (c, none) => barPay c u
  | (c, some (k, v)) => xferPay m c k v

/-- One round, round 0, on every cell in use. -/
def sched : Rounds.Schedule (GSem nD τ sig) (Fin 31) 𝕄 where
  duties g r := if r = 0 then Function.extend kcell cellDuties (fun _ => ∅) g else ∅
  unitless _ := False
  amount g _ _ := Function.extend kcell cellAmount (fun _ => 1) g
  payload g _ u := Function.extend kcell (cellPay m u) (fun _ => iprop(emp)) g
  amount_pos g _ _ _ := by
    rw [Function.extend_def]
    split
    · rename_i h
      obtain ⟨c, x⟩ := Classical.choose h
      cases x
      · exact Nat.one_pos
      · exact N_pos
    · exact Nat.one_pos

/-- What a duty hands over may be handed over through a semaphore, -/
instance cellPay_storable (u : Fin 31) (x) : BI.Storable (upEmb : UEmb _ 𝕄) (cellPay m u x) := by
  rcases x with ⟨c, _ | ⟨k, v⟩⟩
  · show BI.Storable _ (barPay c u)
    unfold barPay
    infer_instance
  · show BI.Storable _ (xferPay m c k v)
    unfold xferPay
    split <;> infer_instance

/-- whichever cell, round and duty it is. -/
instance sched_payload_storable (g : GSem nD τ sig) (r : ℕ) (u : Fin 31) :
    BI.Storable (upEmb : UEmb _ 𝕄) ((sched m).payload g r u) := by
  show BI.Storable upEmb (Function.extend kcell (cellPay m u) (fun _ => iprop(emp)) g)
  rw [Function.extend_def]
  split <;> infer_instance

/-- The schedule at a cell in use: its duties, -/
theorem duties_kcell (x) : (sched m).duties (kcell x) 0 = cellDuties x := by
  dsimp only [sched]; rw [if_pos rfl, kcell_injective.extend_apply]
/-- their amounts, -/
theorem amount_kcell (x) (u : Fin 31) : (sched m).amount (kcell x) 0 u = cellAmount x := by
  dsimp only [sched]; rw [kcell_injective.extend_apply]
/-- and what they hand over. -/
theorem payload_kcell (x) (u : Fin 31) : (sched m).payload (kcell x) 0 u = cellPay m u x := by
  dsimp only [sched]; rw [kcell_injective.extend_apply]
/-- After round 0 there is nothing more. -/
theorem duties_later (g : GSem nD τ sig) : ∀ r, 1 ≤ r → (sched m).duties g r = ∅ :=
  fun r hr => by dsimp only [sched]; rw [if_neg (by omega)]

/-- The same at a barrier and at a transfer's cell, one by one: duties, -/
theorem duties_bar (c : Dev nD) : (sched m).duties (barCell c) 0 = Finset.univ := duties_kcell m (c, none)
/-- a transfer's one duty, -/
theorem duties_cell (c : Dev nD) (k u) : (sched m).duties (cell c k u) 0 = {u} := duties_kcell m (c, some (k, u))
/-- amounts, -/
theorem amount_bar (c : Dev nD) (u) : (sched m).amount (barCell c) 0 u = 1 := amount_kcell m (c, none) u
/-- a transfer's amount, -/
theorem amount_cell (c : Dev nD) (k u v) : (sched m).amount (cell c k u) 0 v = N := amount_kcell m (c, some (k, u)) v
/-- and payloads, -/
theorem payload_bar (c : Dev nD) (u) : (sched m).payload (barCell c) 0 u = barPay c u := payload_kcell m (c, none) u
/-- a transfer's payload. -/
theorem payload_cell (c : Dev nD) (k u v) : (sched m).payload (cell c k u) 0 v = xferPay m c k u := payload_kcell m (c, some (k, u)) v

/-- A barrier's round is worth 31, -/
theorem expect_bar (c : Dev nD) : (sched m).expect (barCell c) 0 = 31 := by
  unfold Schedule.expect Schedule.amountOf
  rw [duties_bar, Finset.sum_congr rfl fun u _ => amount_bar m c u, Finset.sum_const, Finset.card_univ, Fintype.card_fin, smul_eq_mul]
/-- a transfer's round its credit. -/
theorem expect_cell (c : Dev nD) (k u) : (sched m).expect (cell c k u) 0 = N := by
  unfold Schedule.expect Schedule.amountOf; rw [duties_cell, Finset.sum_singleton, amount_cell]

/-- All of the barrier's round, -/
theorem rest_bar (c : Dev nD) :
    bigSep ((sched m).duties (barCell c) 0 \ ∅) (fun u => (sched m).payload (barCell c) 0 u) = bigSep Finset.univ (barPay (F := F) c) := by
  rw [Finset.sdiff_empty, duties_bar]
  exact congrArg _ (funext fun u => payload_bar m c u)
/-- and of a transfer's. -/
theorem rest_cell (c : Dev nD) (k u) :
    bigSep ((sched m).duties (cell c k u) 0 \ ∅) (fun v => (sched m).payload (cell c k u) 0 v) = xferPay m c k u := by
  rw [Finset.sdiff_empty, duties_cell, bigSep_singleton, payload_cell]

end Schedule

/-! ## What is owed, and the levels -/

/-- Device `c`'s unit to the peer it faces at step `t`, and its two transfers to it. -/
def oweBar (c : Dev nD) (t : Fin 31) : CellTallies nD τ sig Unit := tallyAt (barCell (peer c t)) () 1
/-- Its transfer of family `k` to that peer. -/
def oweXfer (c : Dev nD) (k : Fin 4) (t : Fin 31) : CellTallies nD τ sig Unit := tallyAt (cell (peer c t) k t.rev) () N

/-- All that device `c` owes at the start. -/
def O₀ (c : Dev nD) : CellTallies nD τ sig Unit := (due (oweXfer c 3) 0 + due (oweXfer c 1) 0) + due (oweBar c) 0

/-- The debts that levels are given to: those on the devices' cores. -/
def L (g : GSem nD τ sig) : Finset Unit := if g.1.2 = .tc then {()} else ∅
/-- Barrier cells at 1, the reduce-scatter's receive cells at 2, the all-gather's at 3, all others at 0. -/
def lv (g : GSem nD τ sig) (_ : Unit) : ℕ := match g.2 with
  | .reg _ => 1
  | .dma q => if 99 ≤ q.val then 3 else if 67 ≤ q.val then 0 else if 35 ≤ q.val then 2 else 0

/-- On a core there is one kind of debt, -/
theorem L_tc (c : Dev nD) (sm : SemLoc sig) : L ((c : Thread nD τ), sm) = {()} := if_pos rfl
/-- elsewhere none. -/
theorem L_of_ne (g : GSem nD τ sig) (h : g.1.2 ≠ .tc) : L g = ∅ := if_neg h
/-- The level of a barrier, -/
theorem lv_bar (c : Dev nD) (i : Unit) : lv (barCell c) i = 1 := rfl
/-- of a receive cell of the reduce-scatter, -/
theorem lv_cell1 (c : Dev nD) (u) (i : Unit) : lv (cell c 1 u) i = 2 := by
  have h := (peer (home 1 c) u).isLt
  have hv : (dsem 1 (peer (home 1 c) u)).val = 35 + (peer (home 1 c) u).val := rfl
  show (if 99 ≤ (dsem 1 (peer (home 1 c) u)).val then 3 else if 67 ≤ (dsem 1 (peer (home 1 c) u)).val then 0 else if 35 ≤ (dsem 1 (peer (home 1 c) u)).val then 2 else 0) = 2
  rw [if_neg (by omega), if_neg (by omega), if_pos (by omega)]
/-- and of one of the all-gather. -/
theorem lv_cell3 (c : Dev nD) (u) (i : Unit) : lv (cell c 3 u) i = 3 := by
  have hv : (dsem 3 (peer (home 3 c) u)).val = 99 + (peer (home 3 c) u).val := rfl
  show (if 99 ≤ (dsem 3 (peer (home 3 c) u)).val then 3 else if 67 ≤ (dsem 3 (peer (home 3 c) u)).val then 0 else if 35 ≤ (dsem 3 (peer (home 3 c) u)).val then 2 else 0) = 3
  rw [if_pos (by omega)]

/-- Of a step-indexed debt, only what some step owes is owed. -/
theorem due_pos {f : Fin 31 → CellTallies nD τ sig Unit} {n : ℕ} {g : GSem nD τ sig} {i : Unit} (h : 0 < due f n g i) : ∃ t, 0 < f t g i := by
  by_contra hn
  rw [not_exists] at hn
  unfold due at h
  rw [Finset.sum_apply, Finsupp.finset_sum_apply, Finset.sum_eq_zero fun t _ => Nat.eq_zero_of_not_pos (hn t)] at h
  exact Nat.lt_irrefl 0 h

/-- A single debt lies on its own cell. -/
theorem tallyAt_pos {g₀ g : GSem nD τ sig} {n : ℕ} {i j : Unit} (h : 0 < tallyAt g₀ i n g j) : g = g₀ := by
  rw [tallyAt_apply] at h
  by_contra hn
  rw [if_neg fun h' => hn h'.1] at h
  exact Nat.lt_irrefl 0 h

/-- What is owed in transfers lies on cells of their family, -/
theorem oweXfer_pos {c : Dev nD} {k n} {g : GSem nD τ sig} {i : Unit} (h : 0 < due (oweXfer c k) n g i) : ∃ d u, g = cell d k u := by
  obtain ⟨t, ht⟩ := due_pos h
  exact ⟨peer c t, t.rev, tallyAt_pos ht⟩
/-- and what is owed in units on barriers. -/
theorem oweBar_pos {c : Dev nD} {n} {g : GSem nD τ sig} {i : Unit} (h : 0 < due (oweBar c) n g i) : ∃ d, g = barCell d := by
  obtain ⟨t, ht⟩ := due_pos h
  exact ⟨peer c t, tallyAt_pos ht⟩

/-- What two debts together owe, one of them owes. -/
theorem add_pos_cases {A B : CellTallies nD τ sig Unit} {g : GSem nD τ sig} {i : Unit} (h : 0 < (A + B) g i) : 0 < A g i ∨ 0 < B g i := by
  rw [Pi.add_apply, Finsupp.add_apply] at h
  omega

/-- All that is owed at the start lies on barrier cells and receive cells. -/
theorem O₀_pos {c : Dev nD} {g : GSem nD τ sig} {i : Unit} (h : 0 < O₀ c g i) :
    (∃ d u, g = cell d 3 u) ∨ (∃ d u, g = cell d 1 u) ∨ ∃ d, g = barCell d := by
  rcases add_pos_cases h with h | h
  · rcases add_pos_cases h with h | h
    · exact .inl (oweXfer_pos h)
    · exact .inr (.inl (oweXfer_pos h))
  · exact .inr (.inr (oweBar_pos h))

/-- A device may wait for a cell when all it owes lies on cells of a higher level. -/
theorem mayWait_of (c : Dev nD) (sm : SemLoc sig) (O : CellTallies nD τ sig Unit)
    (h : ∀ g i, 0 < O g i → g.1.2 = .tc ∧ lv ((c : Thread nD τ), sm) () < lv g i) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g i hg => by unfold L; rw [if_pos (h g i hg).1]; exact Finset.mem_singleton_self _)
    (fun p hp => by rw [Finset.mem_singleton.mp hp])
    (fun g i hg => (h g i hg).2)

/-- At the barrier the transfers are owed; -/
theorem mayWait_bar (c : Dev nD) :
    (levAts L lv : sProp 𝕄) ⊢ MayWait (c : Thread nD τ) (.reg barS) () (due (oweXfer c 3) 0 + due (oweXfer c 1) 0) :=
  mayWait_of c _ _ fun g i h => by
    rcases add_pos_cases h with h | h
    · obtain ⟨d, u, rfl⟩ := oweXfer_pos h
      exact ⟨rfl, by rw [lv_cell3]; exact (by decide : 1 < 3)⟩
    · obtain ⟨d, u, rfl⟩ := oweXfer_pos h
      exact ⟨rfl, by rw [lv_cell1]; exact (by decide : 1 < 2)⟩
/-- at the reduce-scatter's waits the all-gather's transfers are; -/
theorem mayWait_cell1 (c : Dev nD) (u) :
    (levAts L lv : sProp 𝕄) ⊢ MayWait (c : Thread nD τ) (.dma (dsem 1 (peer (home 1 c) u))) () (due (oweXfer c 3) 0) :=
  mayWait_of c _ _ fun g i h => by
    obtain ⟨d, v, rfl⟩ := oweXfer_pos h
    refine ⟨rfl, ?_⟩
    rw [lv_cell3]
    exact Nat.lt_of_le_of_lt (lv_cell1 c u ()).le (by decide)
/-- and at a staging semaphore, either all or nothing. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  refine mayWait_of c _ _ fun g i h => ?_
  have h0 : lv ((c : Thread nD τ), .dma q) () = 0 := by
    show (if 99 ≤ q.val then 3 else if 67 ≤ q.val then 0 else if 35 ≤ q.val then 2 else 0) = 0
    rw [if_neg (by omega), if_neg (by omega), if_neg (by omega)]
  rw [h0]
  rcases hO with rfl | rfl
  · rcases O₀_pos h with ⟨d, u, rfl⟩ | ⟨d, u, rfl⟩ | ⟨d, rfl⟩
    · exact ⟨rfl, by rw [lv_cell3]; decide⟩
    · exact ⟨rfl, by rw [lv_cell1]; decide⟩
    · exact ⟨rfl, by rw [lv_bar]; decide⟩
  · exact absurd h (Nat.lt_irrefl 0)

/-! ## The ghost state a device starts from -/

section Start
variable (m : (ℓ : Loc nD τ sig) → Buf (Elt F) ℓ) (K : Dev nD × Option (Fin 4 × Fin 31) → ℕ)

/-- What everyone knows: every cell's invariant, that every cell has reached its round, and the levels. -/
def known : sProp 𝕄 :=
  iprop((bigSep Finset.univ fun x => cellInv ER (sched m) (K x) (kcell x)) ∗ (bigSep Finset.univ fun x => reached ER (kcell x) 0) ∗ (levAts L lv : sProp 𝕄))

/-- It may be used any number of times: -/
instance known_persistent : BI.Persistent (known m K) := by unfold known; infer_instance

/-- for a cell's invariant, -/
theorem known_inv (x) : known m K ⊢ cellInv ER (sched m) (K x) (kcell x) := by
  unfold known
  iintro ⟨H, -, -⟩
  iapply (show (bigSep Finset.univ fun x => cellInv ER (sched m) (K x) (kcell x)) ⊢ cellInv ER (sched m) (K x) (kcell x) from
    bigSep_elim (Finset.mem_univ x)); iexact H
/-- or for its having reached its round. -/
theorem known_reached (x) : known m K ⊢ reached ER (kcell x) 0 := by
  unfold known
  iintro ⟨-, H, -⟩
  iapply (show (bigSep Finset.univ fun x => (reached ER (kcell x) 0 : sProp 𝕄)) ⊢ reached ER (kcell x) 0 from
    bigSep_elim (Finset.mem_univ x)); iexact H
/-- What the levels allow, `known` allows. -/
theorem known_may {P : sProp 𝕄} (h : (levAts L lv : sProp 𝕄) ⊢ P) : known m K ⊢ P := by
  unfold known
  iintro ⟨-, -, H⟩
  iapply h; iexact H

/-- The tokens device `c` pays its duties with: its units, its transfers' arrivals, its own send cells'. -/
def tokens (c : Dev nD) : sProp 𝕄 :=
  iprop((bigSep Finset.univ fun t => dutyTok ER (barCell (peer c t)) 0 t.rev)
    ∗ (bigSep Finset.univ fun t => dutyTok ER (cell (peer c t) 1 t.rev) 0 t.rev)
    ∗ (bigSep Finset.univ fun t => dutyTok ER (cell (peer c t) 3 t.rev) 0 t.rev)
    ∗ (bigSep Finset.univ fun t => dutyTok ER (cell c 0 t) 0 t)
    ∗ (bigSep Finset.univ fun t => dutyTok ER (cell c 2 t) 0 t))

/-- Its position at the start of its cells' rounds. -/
def positions (c : Dev nD) : sProp 𝕄 :=
  iprop(atPos ER (barCell c) 0 ∅ 0 ∗ bigSep Finset.univ fun k => bigSep Finset.univ fun u => atPos ER (cell c k u) 0 ∅ 0)

/-- The promises of what it waits for. -/
def credits (c : Dev nD) : sProp 𝕄 :=
  iprop(cred (tallyAt (barCell c) () 31) ∗ (bigSep Finset.univ fun u => cred (tallyAt (cell c 1 u) () N))
    ∗ bigSep Finset.univ fun u => cred (tallyAt (cell c 3 u) () N))

/-- The four semaphores it does not use, at zero. -/
def spare (c : Dev nD) : sProp 𝕄 := bigSep Finset.univ fun k => semVal ((c : Thread nD τ), .dma (dsem k (home k c))) 0

/-- All that device `c`'s body starts from, besides buffers and debts. -/
def start (c : Dev nD) : sProp 𝕄 := iprop((∃ K, known m K ∗ tokens c ∗ positions c) ∗ credits c ∗ spare c)

end Start

end Cert.KernelIdealProof

end
-- ==== Proof.KernelIdealSteps.lean ====
/-
# `KernelIdealSteps`: one trip of each of the kernel's seven loops

Each theorem `stepJ` takes one trip of the kernel's `J`-th loop, on a device `c` and at a step `t`, from what the trip uses to
what it leaves: a unit sent to a peer's barrier (1), a slab sent (2), a slab received and added (3), the finished rows sent (4),
a peer's rows received (5), and the two kinds of send completions waited for (6, 7). The wait and the transfer are stated once
for all families of cells (`wait_cell`, `send_cell`).
-/
module

public import proofs.«01_k».proof.Proof.KernelIdealProtocol

@[expose] public section

noncomputable section

namespace Cert.KernelIdealProof

open Cert.KernelIdeal Cert.KernelIdeal.Gen Cert.Walk
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop needs a variant. -/
abbrev 𝒱₀ : Variants := Variants.none

/-- The kernel's operands: the staging buffers, the scratch buffers, the four semaphore arrays. -/
abbrev atArgs {α : Type 1} (f : (arg0 : Memref sig .tc .vmem S1024x512 .bf16) → arg0.IsWhole → (arg1 : Memref sig .tc .vmem S512x1024 .bf16) → arg1.IsWhole →
    (arg2 : Memref sig .tc .vmem S1024x1024 .bf16) → arg2.IsWhole → (arg3 : Memref sig .tc .vmem S1024x1024 .bf16) → arg3.IsWhole →
    (arg4 : Memref sig .tc .vmem S1x32x32x1024 .bf16) → arg4.IsWhole → (arg5 : Memref sig .tc .vmem S32x1024 .f32) → arg5.IsWhole →
    DmaSems sig S1x32 → DmaSems sig S1x32 → DmaSems sig S1x32 → DmaSems sig S1x32 → α) : α :=
  f (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6

/-- Each of the seven loops makes 31 trips: the first, -/
theorem trips1 : k0_t1_loop.trips = 31 := by decide
/-- the second, -/
theorem trips2 : k0_t2_loop.trips = 31 := by decide
/-- the third, -/
theorem trips3 : k0_t3_loop.trips = 31 := by decide
/-- the fourth, -/
theorem trips4 : k0_t4_loop.trips = 31 := by decide
/-- the fifth, -/
theorem trips5 : k0_t5_loop.trips = 31 := by decide
/-- the sixth, -/
theorem trips6 : k0_t6_loop.trips = 31 := by decide
/-- and the seventh. -/
theorem trips7 : k0_t7_loop.trips = 31 := by decide

section Steps
variable (m : (ℓ : Loc nD τ sig) → Buf (Elt F) ℓ) (K : Dev nD × Option (Fin 4 × Fin 31) → ℕ) (c : Dev nD)

/-! ## The wait and the transfer -/

/-- What device `c` owes, whatever it has waited for. -/
def owing (O : CellTallies nD τ sig Unit) : sProp 𝕄 := iprop(∃ W, owes (c : Thread nD τ) O W)

/-- The wait for the transfer of family `k` at step `u`. -/
theorem wait_cell (k : Fin 4) (u : Fin 31) {q : DmaSem sig} (hq : q = dsem k (peer (home k c) u))
    {src dst : Memref sig .tc .vmem S32x1024 .bf16} {hsrc hdst}
    {O : CellTallies nD τ sig Unit} (hO : (levAts L lv : sProp 𝕄) ⊢ MayWait (c : Thread nD τ) (.dma (dsem k (peer (home k c) u))) () O)
    {α : Type} {kk : PUnit → Prog (TpuEff nD τ sig (Elt F) Λ₀ .tc) α} {Q : α → sProp 𝕄} :
    iprop(known m K ∗ owing c O ∗ cred (tallyAt (cell c k u) () N) ∗ atPos ER (cell c k u) 0 ∅ 0)
      ⊢ iprop((owing c O ∗ atPos ER (cell c k u) 1 ∅ 0 ∗ xferPay m c k u -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 q src dst hsrc hdst) kk) Q) := by
  subst hq
  have hN : dst.view.dmaCredit = N := rfl
  unfold owing
  iintro ⟨#Hknown, ⟨%W, HO⟩, Hcr, Hat⟩ Hk
  ihave #HI := (known_inv m K (c, some (k, u))) $$ Hknown
  iapply (Rounds.wp_wait_rest_token 𝒱₀ ER (sched m) (c : Thread nD τ) none (κ := K (c, some (k, u)))
      (wpE_waitDma2_eq 𝒱₀ (c : Thread nD τ) none Set.univ) (Set.mem_univ _) () (O := O) (W := W) (R := 0) (m := 0) (T := ∅)
      (by rw [Nat.zero_add, expect_cell, hN])) $$ [Hcr HO Hat]
  · isplitr; · iexact HI
    isplitl [Hcr]; · rw [hN]; iexact Hcr
    isplitl [HO]; · iexact HO
    isplitr; · iapply (known_may m K hO); iexact Hknown
    iexact Hat
  iintro ⟨HO, Hat, -, Hpay⟩
  ihave Hp := (Entails.of_eq (rest_cell m c k u)) $$ Hpay
  iapply Hk
  isplitl [HO]; · iexists _; iexact HO
  isplitl [Hat]; · iexact Hat
  iexact Hp

/-- The transfer of families `k` (its completion here) and `l` (its arrival there) to the peer at step `t`. -/
theorem send_cell (k l : Fin 4) (t : Fin 31) {n : Dev nD} (hn : n = peer c t) {s₁ s₂ : DmaSem sig}
    (h₁ : s₁ = dsem k (peer (home k c) t)) (h₂ : s₂ = dsem l (peer (home l (peer c t)) t.rev))
    {src dst src' dst' : Memref sig .tc .vmem S32x1024 .bf16} (es : src = src') (ed : dst = dst') {hsc : (dst : Memref sig (Dev.tc n : Thread nD τ).2.kind .vmem S32x1024 .bf16).view.ref.isScScratch = false}
    {hsrc : src.view.WordExact} {hdst : dst.view.WordExact}
    {hsem : DmaTarget.Typed .vmem (.dma s₂) (.remote (Dev.tc n : Thread nD τ) dst (.dma s₁) hsc)}
    {q : PosShare TreeShare} {fs : Buf (Elt F) (src'.view.loc (c : Thread nD τ))} (fd : Buf (Elt F) (dst'.view.loc (peer c t : Thread nD τ)))
    (hpay₁ : (src'.view.loc (c : Thread nD τ) ↦[src'.view.set]{q} fs : sProp 𝕄) ⊢ xferPay m c k t)
    (hpay₂ : (dst'.view.loc (peer c t : Thread nD τ) ↦[dst'.view.set]{fullShare} (dst'.view.write (Elt F) fd (src'.view.read (Elt F) fs) Finset.univ) : sProp 𝕄)
      ⊢ xferPay m (peer c t) l t.rev)
    {O₁ : CellTallies nD τ sig Unit} (O : CellTallies nD τ sig Unit) (hO : O₁ = O + oweXfer c l t)
    {α : Type} {kk : PUnit → Prog (TpuEff nD τ sig (Elt F) Λ₀ .tc) α} {Q : α → sProp 𝕄} :
    iprop(known m K ∗ owing c O₁ ∗ (src'.view.loc (c : Thread nD τ) ↦[src'.view.set]{q} fs)
        ∗ (dst'.view.loc (peer c t : Thread nD τ) ↦[dst'.view.set]{fullShare} fd)
        ∗ dutyTok ER (cell c k t) 0 t ∗ dutyTok ER (cell (peer c t) l t.rev) 0 t.rev)
      ⊢ iprop((owing c O ∗ cred (tallyAt (cell c k t) () N) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc n : Thread nD τ) dst (.dma s₁) hsc) (.dma s₂) hsrc hdst hsem) kk) Q) := by
  subst hn h₁ h₂ es ed
  unfold owing
  iintro ⟨#Hknown, ⟨%W, HO⟩, Hsrc, Hdst, Htk, Htl⟩ Hk
  ihave #HI₁ := (known_inv m K (c, some (k, t))) $$ Hknown
  ihave #HI₂ := (known_inv m K (peer c t, some (l, t.rev))) $$ Hknown
  ihave #Hr₁ := (known_reached m K (c, some (k, t))) $$ Hknown
  ihave #Hr₂ := (known_reached m K (peer c t, some (l, t.rev))) $$ Hknown
  iapply (Rounds.wp_send_pointsTo 𝒱₀ ER (sched m) (c : Thread nD τ) none (κ₁ := K (c, some (k, t))) (κ₂ := K (peer c t, some (l, t.rev)))
      (r₁ := 0) (r₂ := 0) (d₁ := t) (d₂ := t.rev) (fs := fs) (fd := fd)
      (by rw [duties_cell]; exact Finset.mem_singleton_self _) (by rw [duties_cell]; exact Finset.mem_singleton_self _) () () N (show dst.view.amount (.dma (dsem l (peer (home l (peer c t)) t.rev))) = N from rfl)
      (amount_cell m c k t t) (amount_cell m (peer c t) l t.rev t.rev) O hO (W := W)
      (hpay₁.trans (Entails.of_eq (payload_cell m c k t t).symm)) (hpay₂.trans (Entails.of_eq (payload_cell m (peer c t) l t.rev t.rev).symm)))
    $$ [HO Hsrc Hdst Htk Htl]
  · isplitr; · iexact HI₁
    isplitr; · iexact HI₂
    isplitl [Hsrc]; · iexact Hsrc
    isplitl [Hdst]; · iexact Hdst
    isplitl [HO]; · iexact HO
    isplitl [Htk]; · iexact Htk
    isplitr; · iexact Hr₁
    isplitl [Htl]; · iexact Htl
    iexact Hr₂
  iintro ⟨Hcr, HO⟩
  iapply Hk
  isplitl [HO]; · iexists _; iexact HO
  iexact Hcr

/-! ## The seven trips -/

/-- Loop 1 at step `t`: a unit to the peer's barrier, which hands that peer this device's slot and rows for it. -/
theorem step1 (O : CellTallies nD τ sig Unit) (t : Fin k0_t1_loop.trips) :
    iprop((known m K ∗ owing c (O + due (oweBar c) t.val))
        ∗ (dutyTok ER (barCell (peer c (t.cast trips1))) 0 (t.cast trips1).rev ∗ (∃ f, slotPts (F := F) c (peer c (t.cast trips1)) f)
          ∗ ∃ f, outPts (F := F) c (peer c (t.cast trips1)) fullShare f))
      ⊢ wp frame (wpE (defs₀ (F := F)) 𝒱₀ (c : Thread nD τ) none) Set.univ
          (atArgs (k0_t1_body (F := F)) c (SemArray.scalar (sig.barrier 0 rfl)) t ⟨⟩)
          fun _ => iprop((known m K ∗ owing c (O + due (oweBar c) (t.val + 1))) ∗ emp) := by
  have hd : (⟨k0_dev1 c t, k0_dev1_lt c t⟩ : Dev nD) = peer c (t.cast trips1) := Fin.ext (k0_dev1_eq c t)
  simp only [atArgs, k0_t1_body, semSignalWord, Prog.lift, Prog.bind_op, Prog.bind_ret, Prog.pure_eq_ret, hd]
  generalize ht : t.cast trips1 = u
  have hv : t.val = u.val := by rw [← ht]; rfl
  rw [hv]
  unfold owing
  iintro ⟨⟨#Hknown, %W, HO⟩, Htk, Hslot, Hout⟩
  ihave #HI := (known_inv m K (peer c u, none)) $$ Hknown
  ihave #Hr := (known_reached m K (peer c u, none)) $$ Hknown
  iapply (Rounds.wp_signal 𝒱₀ ER (sched m) (c : Thread nD τ) none (dst := (peer c u : Thread nD τ)) (κ := K (peer c u, none))
      (d := u.rev) (by rw [duties_bar]; exact Finset.mem_univ _) ((amount_bar m (peer c u) u.rev).trans (by decide)) () (O + due (oweBar c) (u.val + 1))
      (O₀ := O + due (oweBar c) u.val) (by rw [due_step, ← add_assoc]; rfl)) $$ [HO Htk Hslot Hout]
  · isplitr; · iexact HI
    isplitl [HO]; · iexact HO
    isplitl [Htk]; · iexact Htk
    isplitl [Hslot Hout]
    · rw [payload_bar]
      unfold barPay
      rw [peer_peer_rev]
      isplitl [Hslot] <;> iassumption
    iexact Hr
  iintro HO
  rw [wp_ret]; imodintro
  isplitl [HO]
  · isplitr; · iexact Hknown
    iexists _; iexact HO
  iempintro

/-- The kernel's slices at their offsets: a row block of the send buffer, -/
theorem slice_send {off : Fin 2 → ℕ} {inb : ∀ a, off a + S32x1024.size a ≤ S1024x1024.size a} {hs} (b : Fin 32) (ho : off = ![32 * b.val, 0]) :
    (Memref.whole cc0_scratch0 : Memref sig .tc .vmem S1024x1024 .bf16).slice (Rect.unit (s := S1024x1024) off S32x1024.size inb) hs = sendMem b := by
  subst ho; rfl
/-- of the result buffer, -/
theorem slice_out {off : Fin 2 → ℕ} {inb : ∀ a, off a + S32x1024.size a ≤ S1024x1024.size a} {hs} (b : Fin 32) (ho : off = ![32 * b.val, 0]) :
    (Memref.whole cc0_stg2_0 : Memref sig .tc .vmem S1024x1024 .bf16).slice (Rect.unit (s := S1024x1024) off S32x1024.size inb) hs = outMem b := by
  subst ho; rfl
/-- and a slot of the receive buffer. -/
theorem slice_slot {off : Fin 4 → ℕ} {inb : ∀ a, off a + S1x1x32x1024.size a ≤ S1x32x32x1024.size a} {hs} (b : Fin 32) (ho : off = ![0, b.val, 0, 0]) :
    ((Memref.whole cc0_scratch1 : Memref sig .tc .vmem S1x32x32x1024 .bf16).slice (Rect.unit (s := S1x32x32x1024) off S1x1x32x1024.size inb) hs).squeeze S32x1024
      squeezes_S1x1x32x1024_S32x1024 = slotMem b := by
  subst ho; rfl

/-- A send position is one more than its step. -/
theorem send_position (k : Fin 4) (hk : k.val % 2 = 0) (u : Fin 31) : (peer (home k c) u).val = u.val + 1 := by
  have h := u.isLt
  have h0 : home k c = 0 := if_neg (by omega)
  rw [h0]
  show (0 + u.val + 1) % 32 = _
  omega

/-- The send loops' semaphore names the step, -/
theorem send_sem (k : Fin 4) (hk : k.val % 2 = 0) {j : ℕ} (u : Fin 31) (hj : j = u.val) : (![0, j + 1] : Fin 2 → ℕ) = ![0, (peer (home k c) u).val] := by
  rw [send_position c k hk u, hj]
/-- the receive loops' the sender, met in the reverse order. -/
theorem recv_position {j : ℕ} (u : Fin 31) (hj : j = u.val) : (c.val + 31 - j) % 32 = (peer c u.rev).val := by
  rw [peer_rev_eq, hj]; rfl

/-- Loop 2 at step `t`: the slab for the peer goes from the send buffer into this device's slot there. -/
theorem step2 (O : CellTallies nD τ sig Unit) (t : Fin k0_t2_loop.trips) :
    iprop((known m K ∗ owing c (O + due (oweXfer c 1) t.val))
        ∗ (dutyTok ER (cell c 0 (t.cast trips2)) 0 (t.cast trips2) ∗ dutyTok ER (cell (peer c (t.cast trips2)) 1 (t.cast trips2).rev) 0 (t.cast trips2).rev
          ∗ sendPts c (peer c (t.cast trips2)) (partial_ m c) ∗ ∃ f, slotPts (F := F) (peer c (t.cast trips2)) c f))
      ⊢ wp frame (wpE (defs₀ (F := F)) 𝒱₀ (c : Thread nD τ) none) Set.univ (atArgs (k0_t2_body (F := F)) c t ⟨⟩)
          fun _ => iprop((known m K ∗ owing c (O + due (oweXfer c 1) (t.val + 1))) ∗ cred (tallyAt (cell c 0 (t.cast trips2)) () N)) := by
  have hd : (⟨k0_dev2 c t, k0_dev2_lt c t⟩ : Dev nD) = peer c (t.cast trips2) := Fin.ext (k0_dev2_eq c t)
  have h1 := k0_off1_eq t
  have h2 := k0_off2_eq c
  have h3 := k0_off3_eq c
  have h4 := k0_off4_eq c t
  simp only [atArgs, k0_t2_body, Prog.lift, Prog.bind_op, Prog.bind_ret, Prog.pure_eq_ret]
  generalize ht : t.cast trips2 = u at *
  have hv : t.val = u.val := by rw [← ht]; rfl
  iintro ⟨⟨#Hknown, HO⟩, Htk, Htl, Hsrc, %fd, Hdst⟩
  iapply (send_cell m K c 0 1 u hd (sem_scratch3 _ (h1.trans (send_sem c 0 rfl u hv)))
      (sem_scratch4 _ (h2.trans (by rw [show home 1 (peer c u) = peer c u from rfl, peer_peer_rev])))
      (slice_send (peer c u) (h4.trans (by rw [hv]; rfl))) (slice_slot c h3) (q := fullShare) (fs := partial_ m c) fd
      (Entails.of_eq (by unfold xferPay sendPts; rfl))
      (Entails.of_eq (by
        unfold xferPay slotPts
        rw [peer_peer_rev]
        exact pointsTo_congr fun i hi => slab_lands m c (peer c u) fd i (by rw [← slotMem_set]; exact hi)))
      (O₁ := O + due (oweXfer c 1) t.val) (O + due (oweXfer c 1) (t.val + 1)) (by rw [hv, due_step, add_assoc])) $$ [HO Htk Htl Hsrc Hdst]
  · isplitr; · iexact Hknown
    isplitl [HO]; · iexact HO
    isplitl [Hsrc]; · unfold sendPts; iexact Hsrc
    isplitl [Hdst]; · unfold slotPts; iexact Hdst
    isplitl [Htk]; · iexact Htk
    iexact Htl
  iintro ⟨HO, Hcr⟩
  rw [wp_ret]; imodintro
  isplitl [HO]
  · isplitr; · iexact Hknown
    iexact HO
  iexact Hcr

/-- This device's sum, in the accumulator. -/
def accPts (f : (cc0_scratch2 : Ref sig .tc).ty.Contents (Elt F)) : sProp 𝕄 :=
  (Memref.whole cc0_scratch2 : Memref sig .tc .vmem S32x1024 .f32).view.loc (c : Thread nD τ) ↦{fullShare} f

/-- The offset (0, 0). -/
theorem zero2 : (![0, 0] : Fin 2 → ℕ) = fun _ => 0 := by funext a; fin_cases a <;> rfl

/-- The accumulator is loaded whole -/
theorem load_acc (f : (cc0_scratch2 : Ref sig .tc).ty.Contents (Elt F)) :
    (Memref.whole cc0_scratch2 : Memref sig .tc .vmem S32x1024 .f32).view.readAt (Elt F)
      (Rect.unit (s := S32x1024) ![0, 0] S32x1024.size inb_S32x1024_S32x1024_0_0).toLoadRect f = f :=
  Memref.readAt_unit_zero (Elt F) cc0_scratch2 zero2 _ f
/-- and stored whole. -/
theorem store_acc (f w : (cc0_scratch2 : Ref sig .tc).ty.Contents (Elt F)) :
    ((Memref.whole cc0_scratch2 : Memref sig .tc .vmem S32x1024 .f32).access
      (Rect.unit (s := S32x1024) ![0, 0] S32x1024.size inb_S32x1024_S32x1024_0_0)).write (Elt F) f w Finset.univ = w :=
  Memref.write_access_unit_zero_univ (Elt F) cc0_scratch2 zero2 _ f w

/-- What a load of a slot that holds its sender's slab reads. -/
theorem load_slot_at {off : Fin 4 → ℕ} {inb : ∀ a, off a + S1x1x32x1024.size a ≤ S1x32x32x1024.size a} (s d : Fin 32) (ho : off = ![0, s.val, 0, 0]) :
    (Memref.whole cc0_scratch1 : Memref sig .tc .vmem S1x32x32x1024 .bf16).view.readAt (Elt F)
      (Rect.unit (s := S1x32x32x1024) off S1x1x32x1024.size inb).toLoadRect (gathered m d) = lifted (slab m s d) := by
  subst ho; exact load_slot m s d
/-- Such a load reads nothing outside the slot. -/
theorem slot_reads {off : Fin 4 → ℕ} {inb : ∀ a, off a + S1x1x32x1024.size a ≤ S1x32x32x1024.size a} (s : Fin 32) (ho : off = ![0, s.val, 0, 0]) :
    (Memref.whole cc0_scratch1 : Memref sig .tc .vmem S1x32x32x1024 .bf16).view.setOn
      (Rect.unit (s := S1x32x32x1024) off S1x1x32x1024.size inb).toLoadRect.set ⊆ (slotMem s).view.set := by
  subst ho
  rw [slotMem_set, ← View.set_slice_whole cc0_scratch1 (slotRect s), View.set_slice]
  exact Finset.Subset.refl _

/-- Loop 3 at step `t`: the slab of the `t`-th sender has arrived, and is added to the sum. -/
theorem step3 (t : Fin k0_t3_loop.trips) :
    iprop((known m K ∗ owing c (due (oweXfer c 3) 0) ∗ accPts c (total m c t.val))
        ∗ (cred (tallyAt (cell c 1 (t.cast trips3).rev) () N) ∗ atPos ER (cell c 1 (t.cast trips3).rev) 0 ∅ 0))
      ⊢ wp frame (wpE (defs₀ (F := F)) 𝒱₀ (c : Thread nD τ) none) Set.univ (atArgs (k0_t3_body (F := F)) c t ⟨⟩)
          fun _ => iprop((known m K ∗ owing c (due (oweXfer c 3) 0) ∗ accPts c (total m c (t.val + 1)))
            ∗ (atPos ER (cell c 1 (t.cast trips3).rev) 1 ∅ 0 ∗ slotPts c (peer c (t.cast trips3).rev) (gathered m c))) := by
  have h6 := k0_off6_eq c t
  have h8 := k0_off8_eq c t
  simp only [atArgs, k0_t3_body, Prog.lift, Prog.bind_op, Prog.bind_ret, Prog.pure_eq_ret]
  generalize ht : t.cast trips3 = u at *
  have hv : t.val = u.val := by rw [← ht]; rfl
  have ho : k0_off8 c t = ![0, (peer c u.rev).val, 0, 0] := h8.trans (by rw [recv_position c u hv])
  iintro ⟨⟨#Hknown, HO, Hacc⟩, Hcr, Hat⟩
  iapply (wait_cell m K c 1 u.rev (sem_scratch4 _ (h6.trans (by rw [recv_position c u hv]; rfl))) (mayWait_cell1 c u.rev)) $$ [HO Hcr Hat]
  · isplitr; · iexact Hknown
    isplitl [HO]; · iexact HO
    isplitl [Hcr]; · iexact Hcr
    iexact Hat
  iintro ⟨HO, Hat, Hslot⟩
  ihave Hslot := (Entails.of_eq (show xferPay m c 1 u.rev = slotPts c (peer c u.rev) (gathered m c) from rfl)) $$ Hslot
  unfold accPts slotPts
  iapply (wp_load 𝒱₀ (c : Thread nD τ) none Set.univ (m := Memref.whole cc0_scratch2) (Finset.subset_univ _)) $$ Hacc
  iintro Hacc
  iapply (wp_load 𝒱₀ (c : Thread nD τ) none Set.univ (m := Memref.whole cc0_scratch1) (slot_reads _ ho)) $$ Hslot
  iintro Hslot
  iapply (wp_load 𝒱₀ (c : Thread nD τ) none Set.univ (m := Memref.whole cc0_scratch2) (Finset.subset_univ _)) $$ Hacc
  iintro Hacc
  iapply (wp_store 𝒱₀ (c : Thread nD τ) none Set.univ (m := Memref.whole cc0_scratch2)
      (r := Rect.unit (s := S32x1024) ![0, 0] S32x1024.size inb_S32x1024_S32x1024_0_0) (Mk := Finset.univ) (f := total m c t.val) (Finset.subset_univ _)) $$ Hacc
  iintro Hacc
  rw [wp_ret]; imodintro
  isplitl [HO Hacc]
  · isplitr; · iexact Hknown
    isplitl [HO]; · iexact HO
    have hsum := (store_acc (total m c t.val) (k0_pay4 _ _)).trans
      ((congrArg₂ k0_pay4 (load_acc (total m c t.val)) (load_slot_at (inb := k0_off8_inb c t) m _ c ho)).trans
        (show _ = total m c (t.val + 1) by rw [peer_rev_eq, ← hv]; rfl))
    ihave Hsum := (Entails.of_eq (congrArg (fun f => (((Memref.whole cc0_scratch2 : Memref sig .tc .vmem S32x1024 .f32).access
      (Rect.unit (s := S32x1024) ![0, 0] S32x1024.size inb_S32x1024_S32x1024_0_0)).loc (c : Thread nD τ) ↦{fullShare} f : sProp 𝕄)) hsum)) $$ Hacc
    iexact Hsum
  isplitl [Hat]; · iexact Hat
  iexact Hslot

/-- Loop 4 at step `t`: this device's finished rows go to the peer, read through one of 31 shares of them. -/
theorem step4 (O : CellTallies nD τ sig Unit) (t : Fin k0_t4_loop.trips) :
    iprop((known m K ∗ owing c (O + due (oweXfer c 3) t.val))
        ∗ (dutyTok ER (cell c 2 (t.cast trips4)) 0 (t.cast trips4) ∗ dutyTok ER (cell (peer c (t.cast trips4)) 3 (t.cast trips4).rev) 0 (t.cast trips4).rev
          ∗ outPts c c (piece (t.cast trips4)) (output m) ∗ ∃ f, outPts (F := F) (peer c (t.cast trips4)) c fullShare f))
      ⊢ wp frame (wpE (defs₀ (F := F)) 𝒱₀ (c : Thread nD τ) none) Set.univ (atArgs (k0_t4_body (F := F)) c t ⟨⟩)
          fun _ => iprop((known m K ∗ owing c (O + due (oweXfer c 3) (t.val + 1))) ∗ cred (tallyAt (cell c 2 (t.cast trips4)) () N)) := by
  have hd : (⟨k0_dev3 c t, k0_dev3_lt c t⟩ : Dev nD) = peer c (t.cast trips4) := Fin.ext (k0_dev3_eq c t)
  have h9 := k0_off9_eq t
  have h10 := k0_off10_eq c
  have h11 := k0_off11_eq c
  simp only [atArgs, k0_t4_body, Prog.lift, Prog.bind_op, Prog.bind_ret, Prog.pure_eq_ret]
  generalize ht : t.cast trips4 = u at *
  have hv : t.val = u.val := by rw [← ht]; rfl
  iintro ⟨⟨#Hknown, HO⟩, Htk, Htl, Hsrc, %fd, Hdst⟩
  iapply (send_cell m K c 2 3 u hd (sem_scratch5 _ (h9.trans (send_sem c 2 rfl u hv)))
      (sem_scratch6 _ (h10.trans (by rw [show home 3 (peer c u) = peer c u from rfl, peer_peer_rev])))
      (slice_out c h11) (slice_out c h11) (q := piece u) (fs := output m) fd
      (Entails.of_eq (by unfold xferPay outPts; rfl))
      (Entails.of_eq (by
        unfold xferPay outPts
        rw [peer_peer_rev]
        exact pointsTo_congr fun i hi => rows_land m c fd i (by rw [← outMem_set]; exact hi)))
      (O₁ := O + due (oweXfer c 3) t.val) (O + due (oweXfer c 3) (t.val + 1)) (by rw [hv, due_step, add_assoc])) $$ [HO Htk Htl Hsrc Hdst]
  · isplitr; · iexact Hknown
    isplitl [HO]; · iexact HO
    isplitl [Hsrc]; · unfold outPts; iexact Hsrc
    isplitl [Hdst]; · unfold outPts; iexact Hdst
    isplitl [Htk]; · iexact Htk
    iexact Htl
  iintro ⟨HO, Hcr⟩
  rw [wp_ret]; imodintro
  isplitl [HO]
  · isplitr; · iexact Hknown
    iexact HO
  iexact Hcr

/-- Who owes nothing may wait for anything. -/
theorem mayWait_nothing (sm : SemLoc sig) : (levAts L lv : sProp 𝕄) ⊢ MayWait (c : Thread nD τ) sm () 0 := by
  rw [MayWait_zero]; iintro -; iempintro

/-- Loop 5 at step `t`: the `t`-th sender's finished rows have arrived. -/
theorem step5 (t : Fin k0_t5_loop.trips) :
    iprop((known m K ∗ owing c 0) ∗ (cred (tallyAt (cell c 3 (t.cast trips5).rev) () N) ∗ atPos ER (cell c 3 (t.cast trips5).rev) 0 ∅ 0))
      ⊢ wp frame (wpE (defs₀ (F := F)) 𝒱₀ (c : Thread nD τ) none) Set.univ (atArgs (k0_t5_body (F := F)) c t ⟨⟩)
          fun _ => iprop((known m K ∗ owing c 0)
            ∗ (atPos ER (cell c 3 (t.cast trips5).rev) 1 ∅ 0 ∗ outPts c (peer c (t.cast trips5).rev) fullShare (output m))) := by
  have h12 := k0_off12_eq c t
  simp only [atArgs, k0_t5_body, Prog.lift, Prog.bind_op, Prog.bind_ret, Prog.pure_eq_ret]
  generalize ht : t.cast trips5 = u at *
  have hv : t.val = u.val := by rw [← ht]; rfl
  iintro ⟨⟨#Hknown, HO⟩, Hcr, Hat⟩
  iapply (wait_cell m K c 3 u.rev (sem_scratch6 _ (h12.trans (by rw [recv_position c u hv]; rfl))) (mayWait_nothing c _)) $$ [HO Hcr Hat]
  · isplitr; · iexact Hknown
    isplitl [HO]; · iexact HO
    isplitl [Hcr]; · iexact Hcr
    iexact Hat
  iintro ⟨HO, Hat, Hrows⟩
  unfold xferPay
  rw [wp_ret]; imodintro
  isplitl [HO]
  · isplitr; · iexact Hknown
    iexact HO
  isplitl [Hat]; · iexact Hat
  iexact Hrows

/-- Loop 6 at step `t`: the slab sent at step `t` has been read, and its rows of the send buffer come back. -/
theorem step6 (t : Fin k0_t6_loop.trips) :
    iprop((known m K ∗ owing c 0) ∗ (cred (tallyAt (cell c 0 (t.cast trips6)) () N) ∗ atPos ER (cell c 0 (t.cast trips6)) 0 ∅ 0))
      ⊢ wp frame (wpE (defs₀ (F := F)) 𝒱₀ (c : Thread nD τ) none) Set.univ (atArgs (k0_t6_body (F := F)) t ⟨⟩)
          fun _ => iprop((known m K ∗ owing c 0)
            ∗ (atPos ER (cell c 0 (t.cast trips6)) 1 ∅ 0 ∗ sendPts c (peer c (t.cast trips6)) (partial_ m c))) := by
  have h14 := k0_off14_eq t
  simp only [atArgs, k0_t6_body, Prog.lift, Prog.bind_op, Prog.bind_ret, Prog.pure_eq_ret]
  generalize ht : t.cast trips6 = u at *
  have hv : t.val = u.val := by rw [← ht]; rfl
  iintro ⟨⟨#Hknown, HO⟩, Hcr, Hat⟩
  iapply (wait_cell m K c 0 u (sem_scratch3 _ (h14.trans (send_sem c 0 rfl u hv))) (mayWait_nothing c _)) $$ [HO Hcr Hat]
  · isplitr; · iexact Hknown
    isplitl [HO]; · iexact HO
    isplitl [Hcr]; · iexact Hcr
    iexact Hat
  iintro ⟨HO, Hat, Hrows⟩
  unfold xferPay
  rw [wp_ret]; imodintro
  isplitl [HO]
  · isplitr; · iexact Hknown
    iexact HO
  isplitl [Hat]; · iexact Hat
  iexact Hrows

/-- Loop 7 at step `t`: the rows sent at step `t` have been read, and the share of them comes back. -/
theorem step7 (t : Fin k0_t7_loop.trips) :
    iprop((known m K ∗ owing c 0) ∗ (cred (tallyAt (cell c 2 (t.cast trips7)) () N) ∗ atPos ER (cell c 2 (t.cast trips7)) 0 ∅ 0))
      ⊢ wp frame (wpE (defs₀ (F := F)) 𝒱₀ (c : Thread nD τ) none) Set.univ (atArgs (k0_t7_body (F := F)) t ⟨⟩)
          fun _ => iprop((known m K ∗ owing c 0)
            ∗ (atPos ER (cell c 2 (t.cast trips7)) 1 ∅ 0 ∗ outPts c c (piece (t.cast trips7)) (output m))) := by
  have h15 := k0_off15_eq t
  simp only [atArgs, k0_t7_body, Prog.lift, Prog.bind_op, Prog.bind_ret, Prog.pure_eq_ret]
  generalize ht : t.cast trips7 = u at *
  have hv : t.val = u.val := by rw [← ht]; rfl
  iintro ⟨⟨#Hknown, HO⟩, Hcr, Hat⟩
  iapply (wait_cell m K c 2 u (sem_scratch5 _ (h15.trans (send_sem c 2 rfl u hv))) (mayWait_nothing c _)) $$ [HO Hcr Hat]
  · isplitr; · iexact Hknown
    isplitl [HO]; · iexact HO
    isplitl [Hcr]; · iexact Hcr
    iexact Hat
  iintro ⟨HO, Hat, Hrows⟩
  unfold xferPay
  rw [wp_ret]; imodintro
  isplitl [HO]
  · isplitr; · iexact Hknown
    iexact HO
  isplitl [Hat]; · iexact Hat
  iexact Hrows

end Steps

end Cert.KernelIdealProof

end
-- ==== Proof.KernelIdealPieces.lean ====
/-
# `KernelIdealPieces`: the kernel's buffers taken apart and put together

A buffer of 32 parts (the receive buffer's slots, the send and result buffers' row blocks) is the part that is this
device's own and the parts of its peers, in the order of the steps; and this device's rows of the result are 31 shares
of themselves, one for each transfer that reads them.
-/
module

public import proofs.«01_k».proof.Proof.KernelIdealSteps
public import Idealize.ShloMosaic.Lib.SparseCore.Stream

@[expose] public section

noncomputable section

namespace Cert.KernelIdealProof

open Cert.KernelIdeal Cert.KernelIdeal.Gen Cert.Walk
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `c`'s whole buffer `b`. -/
def bufPts (c : Dev nD) (b : Ref sig .tc) (f : b.ty.Contents (Elt F)) : sProp 𝕄 := (c : Thread nD τ).loc b ↦{fullShare} f

/-- The receive buffer is its slots, -/
theorem slots_whole (c : Dev nD) (f) : bufPts (F := F) c cc0_scratch1 f = bigSep Finset.univ fun s => slotPts c s f := by
  unfold bufPts
  refine (Ring.pointsTo_blocks (ℓ := (c : Thread nD τ).loc cc0_scratch1) (fun s => (slotRect s).set) slot_disjoint slot_cover f).trans ?_
  exact bigSep_congr fun s _ => by unfold slotPts; rw [slotMem_set]
/-- the send buffer its row blocks, -/
theorem send_whole (c : Dev nD) (f) : bufPts (F := F) c cc0_scratch0 f = bigSep Finset.univ fun s => sendPts c s f := by
  unfold bufPts
  refine (Ring.pointsTo_blocks (ℓ := (c : Thread nD τ).loc cc0_scratch0) (fun s => (rowRect s).set) row_disjoint row_cover f).trans ?_
  exact bigSep_congr fun s _ => by unfold sendPts; rw [sendMem_set]
/-- and the result buffer its own. -/
theorem out_whole (c : Dev nD) (f) : bufPts (F := F) c cc0_stg2_0 f = bigSep Finset.univ fun s => outPts c s fullShare f := by
  unfold bufPts
  refine (Ring.pointsTo_blocks (ℓ := (c : Thread nD τ).loc cc0_stg2_0) (fun s => (rowRect s).set) row_disjoint row_cover f).trans ?_
  exact bigSep_congr fun s _ => by unfold outPts; rw [outMem_set]

/-- The receive buffer dealt out: this device's slot, and each peer's. -/
theorem slots_deal (c : Dev nD) (f) :
    bufPts (F := F) c cc0_scratch1 f ⊢ iprop((∃ g, slotPts (F := F) c c g) ∗ bigSep Finset.univ fun t => iprop(∃ g, slotPts (F := F) c (peer c t) g)) := by
  rw [slots_whole, ← bigSep_around c (fun s => iprop(∃ g, slotPts (F := F) c s g))]
  exact bigSep_mono fun s _ => exists_intro (Φ := fun g => slotPts c s g) f
/-- The result buffer dealt out. -/
theorem out_deal (c : Dev nD) (f) :
    bufPts (F := F) c cc0_stg2_0 f
      ⊢ iprop((∃ g, outPts (F := F) c c fullShare g) ∗ bigSep Finset.univ fun t => iprop(∃ g, outPts (F := F) c (peer c t) fullShare g)) := by
  rw [out_whole, ← bigSep_around c (fun s => iprop(∃ g, outPts (F := F) c s fullShare g))]
  exact bigSep_mono fun s _ => exists_intro (Φ := fun g => outPts c s fullShare g) f

/-- The send buffer by peers. -/
theorem send_around (c : Dev nD) (f) :
    bufPts (F := F) c cc0_scratch0 f = iprop(sendPts c c f ∗ bigSep Finset.univ fun t => sendPts c (peer c t) f) := by
  rw [send_whole, bigSep_around c]
/-- The result buffer by peers. -/
theorem out_around (c : Dev nD) (f) :
    bufPts (F := F) c cc0_stg2_0 f = iprop(outPts c c fullShare f ∗ bigSep Finset.univ fun t => outPts c (peer c t) fullShare f) := by
  rw [out_whole, bigSep_around c]

/-- The receive buffer put together again, at whatever each slot holds. -/
theorem slots_join (c : Dev nD) (g : (cc0_scratch1 : Ref sig .tc).ty.Contents (Elt F)) :
    iprop((∃ f, slotPts (F := F) c c f) ∗ bigSep Finset.univ fun t => slotPts c (peer c t) g) ⊢ iprop(∃ f, bufPts (F := F) c cc0_scratch1 f) := by
  refine (sep_mono_right (bigSep_mono fun t _ => exists_intro (Φ := fun g => slotPts c (peer c t) g) g)).trans ?_
  rw [← bigSep_around c (fun s => iprop(∃ f, slotPts (F := F) c s f))]
  unfold bufPts
  refine Entails.trans (Entails.of_eq ?_) (Ring.pointsTo_blocks_join_exists (ℓ := (c : Thread nD τ).loc cc0_scratch1) (fun s => (slotRect s).set) slot_disjoint slot_cover g)
  exact bigSep_congr fun s _ => by unfold slotPts; rw [slotMem_set]

/-- This device's rows as 31 shares. -/
theorem out_pieces (c : Dev nD) (f) : outPts (F := F) c c fullShare f = bigSep Finset.univ fun t => outPts c c (piece t) f := by
  unfold outPts piece
  exact pointsTo_piecesOf (ℓ := (outMem c).view.loc (c : Thread nD τ)) (outMem c).view.set f (o := 31) (by decide) fullShare

/-- Four families, one after the other. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

end Cert.KernelIdealProof

end
-- ==== Proof.KernelIdealReduce.lean ====
/-
# `KernelIdealReduce`: the kernel up to this device's finished sum

From the buffers as the launch leaves them: device `c` hands its peers their slots and rows with the barrier's units, waits
for theirs, forms its partial product, sends each peer its slab, and adds its own slab and the 31 it receives
(`reduce_phase`). Then it holds the sum `total m c 31`, the rows of every peer's result that it may write, and its receive
buffer slot by slot.
-/
module

public import proofs.«01_k».proof.Proof.KernelIdealPieces

@[expose] public section

noncomputable section

namespace Cert.KernelIdealProof

open Cert.KernelIdeal Cert.KernelIdeal.Gen Cert.Walk
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Accesses
variable (m : (ℓ : Loc nD τ sig) → Buf (Elt F) ℓ)

/-- The operands are loaded whole; -/
theorem load_A (f : (cc0_stg0_0 : Ref sig .tc).ty.Contents (Elt F)) :
    (Memref.whole cc0_stg0_0 : Memref sig .tc .vmem S1024x512 .bf16).view.readAt (Elt F)
      (Rect.unit (s := S1024x512) ![0, 0] S1024x512.size inb_S1024x512_S1024x512_0_0).toLoadRect f = f :=
  Memref.readAt_unit_zero (Elt F) cc0_stg0_0 zero2 _ f
/-- the second operand likewise; -/
theorem load_B (f : (cc0_stg1_0 : Ref sig .tc).ty.Contents (Elt F)) :
    (Memref.whole cc0_stg1_0 : Memref sig .tc .vmem S512x1024 .bf16).view.readAt (Elt F)
      (Rect.unit (s := S512x1024) ![0, 0] S512x1024.size inb_S512x1024_S512x1024_0_0).toLoadRect f = f :=
  Memref.readAt_unit_zero (Elt F) cc0_stg1_0 zero2 _ f
/-- the product is stored whole; -/
theorem store_send (f w : (cc0_scratch0 : Ref sig .tc).ty.Contents (Elt F)) :
    ((Memref.whole cc0_scratch0 : Memref sig .tc .vmem S1024x1024 .bf16).access
      (Rect.unit (s := S1024x1024) ![0, 0] S1024x1024.size inb_S1024x1024_S1024x1024_0_0)).write (Elt F) f w Finset.univ = w :=
  Memref.write_access_unit_zero_univ (Elt F) cc0_scratch0 zero2 _ f w

/-- this device's slab is loaded from its own rows of the send buffer. -/
theorem rows_reads {off : Fin 2 → ℕ} {inb : ∀ a, off a + S32x1024.size a ≤ S1024x1024.size a} (b : Fin 32) (ho : off = ![32 * b.val, 0]) :
    (Memref.whole cc0_scratch0 : Memref sig .tc .vmem S1024x1024 .bf16).view.setOn
      (Rect.unit (s := S1024x1024) off S32x1024.size inb).toLoadRect.set ⊆ (sendMem b).view.set := by
  subst ho
  rw [sendMem_set, ← View.set_slice_whole cc0_scratch0 (rowRect b), View.set_slice]
  exact Finset.Subset.refl _
/-- What that load reads is the slab. -/
theorem load_rows_at {off : Fin 2 → ℕ} {inb : ∀ a, off a + S32x1024.size a ≤ S1024x1024.size a} (s b : Fin 32) (ho : off = ![32 * b.val, 0]) :
    (Memref.whole cc0_scratch0 : Memref sig .tc .vmem S1024x1024 .bf16).view.readAt (Elt F)
      (Rect.unit (s := S1024x1024) off S32x1024.size inb).toLoadRect (partial_ m s) = slab m s b := by
  subst ho; exact load_rows m s b

end Accesses

section Phase
variable (m : (ℓ : Loc nD τ sig) → Buf (Elt F) ℓ) (K : Dev nD × Option (Fin 4 × Fin 31) → ℕ) (c : Dev nD)

/-- What the first phase uses. -/
def beforeReduce : sProp 𝕄 :=
  iprop(owing c (O₀ c)
    ∗ (bigSep Finset.univ fun t => dutyTok ER (barCell (peer c t)) 0 t.rev)
    ∗ (bigSep Finset.univ fun t => dutyTok ER (cell (peer c t) 1 t.rev) 0 t.rev)
    ∗ (bigSep Finset.univ fun t => dutyTok ER (cell c 0 t) 0 t)
    ∗ atPos ER (barCell c) 0 ∅ 0 ∗ cred (tallyAt (barCell c) () 31)
    ∗ (bigSep Finset.univ fun u => atPos ER (cell c 1 u) 0 ∅ 0)
    ∗ (bigSep Finset.univ fun u => cred (tallyAt (cell c 1 u) () N))
    ∗ bufPts c cc0_stg0_0 (inA m c) ∗ bufPts c cc0_stg1_0 (inB m c) ∗ (∃ f, bufPts (F := F) c cc0_stg2_0 f)
    ∗ (∃ f, bufPts (F := F) c cc0_scratch0 f) ∗ (∃ f, bufPts (F := F) c cc0_scratch1 f) ∗ (∃ f, bufPts (F := F) c cc0_scratch2 f))

/-- What it leaves. -/
def afterReduce : sProp 𝕄 :=
  iprop(owing c (due (oweXfer c 3) 0)
    ∗ atPos ER (barCell c) 1 ∅ 0
    ∗ (bigSep Finset.univ fun u => cred (tallyAt (cell c 0 u) () N))
    ∗ (bigSep Finset.univ fun u => atPos ER (cell c 1 u) 1 ∅ 0)
    ∗ bufPts c cc0_stg0_0 (inA m c) ∗ bufPts c cc0_stg1_0 (inB m c)
    ∗ (∃ f, outPts (F := F) c c fullShare f) ∗ (bigSep Finset.univ fun t => iprop(∃ f, outPts (F := F) (peer c t) c fullShare f))
    ∗ sendPts c c (partial_ m c)
    ∗ (∃ f, bufPts (F := F) c cc0_scratch1 f) ∗ (∃ f, bufPts (F := F) c cc0_scratch2 f))

/-- The barrier's units hand this device its slot and its rows on every peer. -/
theorem bar_deals : bigSep Finset.univ (barPay (F := F) c)
    = iprop((bigSep Finset.univ fun t => iprop(∃ f, slotPts (F := F) (peer c t) c f))
      ∗ bigSep Finset.univ fun t => iprop(∃ f, outPts (F := F) (peer c t) c fullShare f)) := by
  unfold barPay
  rw [bigSep_sep']

/-- The first part of the body: it ends with this device's sum of all 32 slabs. -/
theorem reduce_phase :
    iprop(known m K ∗ beforeReduce m c)
      ⊢ wp frame (wpE (defs₀ (F := F)) 𝒱₀ (c : Thread nD τ) none) Set.univ (atArgs (k0_part1 (F := F)))
          fun r => iprop(⌜r.1 = c ∧ r.2.2 = total m c 31⌝ ∗ afterReduce m c) := by
  have h5 := k0_off5_eq c
  simp only [atArgs, k0_part1_eq_skeleton]
  unfold k0_part1_skel
  simp only [semWaitWord, Prog.lift, Prog.bind_op, Prog.bind_ret, Prog.pure_eq_ret, wp_deviceId]
  unfold beforeReduce O₀
  iintro ⟨#Hknown, HO, Htbar, Ht1, Ht0, Hatbar, Hcbar, Hat1, Hc1, HA, HB, ⟨%fo, Hout⟩, ⟨%f0, Hsend⟩, ⟨%f1, Hrecv⟩, ⟨%f2, Hacc⟩⟩
  -- the receive and result buffers dealt out, and the units sent
  ihave Hrecv := (slots_deal c f1) $$ Hrecv
  icases Hrecv with ⟨Hslot, Hslots⟩
  ihave Hout := (out_deal c fo) $$ Hout
  icases Hout with ⟨Hrows, Houts⟩
  iapply (wp_loop_family frame (wpE (defs₀ (F := F)) 𝒱₀ (c : Thread nD τ) none) Set.univ k0_t1_loop k0_t1_ok trips1 _
      (fun n => iprop(known m K ∗ owing c (due (oweXfer c 3) 0 + due (oweXfer c 1) 0 + due (oweBar c) n)))
      (fun t => iprop(dutyTok ER (barCell (peer c t)) 0 t.rev ∗ (∃ f, slotPts (F := F) c (peer c t) f) ∗ ∃ f, outPts (F := F) c (peer c t) fullShare f))
      (fun _ => iprop(emp)) (step1 m K c (due (oweXfer c 3) 0 + due (oweXfer c 1) 0))) $$ [HO Htbar Hslots Houts]
  · isplitl [HO]
    · isplitr; · iexact Hknown
      iexact HO
    rw [bigSep_sep', bigSep_sep']
    isplitl [Htbar]; · iexact Htbar
    isplitl [Hslots] <;> iassumption
  iintro ⟨⟨-, HO⟩, -⟩
  rw [due_end, add_zero]
  -- the wait for the peers' units
  unfold owing
  icases HO with ⟨%W, HO⟩
  ihave #HI := (known_inv m K (c, none)) $$ Hknown
  iapply (Rounds.wp_wait_rest_token 𝒱₀ ER (sched m) (c : Thread nD τ) none (κ := K (c, none))
      (wpE_semWait_eq 𝒱₀ (c : Thread nD τ) none Set.univ) (Set.mem_univ _) ()
      (O := due (oweXfer c 3) 0 + due (oweXfer c 1) 0) (W := W) (R := 0) (m := 0) (T := ∅)
      (by rw [Nat.zero_add]; exact (expect_bar m c).symm)) $$ [Hcbar HO Hatbar]
  · isplitr; · iexact HI
    isplitl [Hcbar]; · iexact Hcbar
    isplitl [HO]; · iexact HO
    isplitr; · iapply (known_may m K (mayWait_bar c)); iexact Hknown
    iexact Hatbar
  iintro ⟨HO, Hatbar, -, Hpay⟩
  ihave Hp := (Entails.of_eq ((rest_bar m c).trans (bar_deals c))) $$ Hpay
  icases Hp with ⟨Htheirs, Htheirrows⟩
  -- the partial product
  unfold bufPts
  iapply (wp_load 𝒱₀ (c : Thread nD τ) none Set.univ (m := Memref.whole cc0_stg0_0) (Finset.subset_univ _)) $$ HA
  iintro HA
  iapply (wp_load 𝒱₀ (c : Thread nD τ) none Set.univ (m := Memref.whole cc0_stg1_0) (Finset.subset_univ _)) $$ HB
  iintro HB
  iapply (wp_load 𝒱₀ (c : Thread nD τ) none Set.univ (m := Memref.whole cc0_scratch0) (Finset.subset_univ _)) $$ Hsend
  iintro Hsend
  iapply (wp_store 𝒱₀ (c : Thread nD τ) none Set.univ (m := Memref.whole cc0_scratch0)
      (r := Rect.unit (s := S1024x1024) ![0, 0] S1024x1024.size inb_S1024x1024_S1024x1024_0_0) (Mk := Finset.univ) (f := f0) (Finset.subset_univ _)) $$ Hsend
  iintro Hsend
  have hprod := (store_send f0 (k0_pay2 _ _)).trans
    ((congrArg₂ k0_pay2 (load_A (inA m c)) (load_B (inB m c))).trans (show _ = partial_ m c from rfl))
  ihave Hsend := (Entails.of_eq (congrArg (fun f => (((Memref.whole cc0_scratch0 : Memref sig .tc .vmem S1024x1024 .bf16).access
    (Rect.unit (s := S1024x1024) ![0, 0] S1024x1024.size inb_S1024x1024_S1024x1024_0_0)).loc (c : Thread nD τ) ↦{fullShare} f : sProp 𝕄)) hprod)) $$ Hsend
  ihave Hsend := (Entails.of_eq (send_around c (partial_ m c))) $$ [Hsend]
  · unfold bufPts; iexact Hsend
  icases Hsend with ⟨Hown, Hsends⟩
  -- the slabs sent
  iapply (wp_loop_family frame (wpE (defs₀ (F := F)) 𝒱₀ (c : Thread nD τ) none) Set.univ k0_t2_loop k0_t2_ok trips2 _
      (fun n => iprop(known m K ∗ owing c (due (oweXfer c 3) 0 + due (oweXfer c 1) n)))
      (fun t => iprop(dutyTok ER (cell c 0 t) 0 t ∗ dutyTok ER (cell (peer c t) 1 t.rev) 0 t.rev
          ∗ sendPts c (peer c t) (partial_ m c) ∗ ∃ f, slotPts (F := F) (peer c t) c f))
      (fun t => cred (tallyAt (cell c 0 t) () N)) (step2 m K c (due (oweXfer c 3) 0))) $$ [HO Ht0 Ht1 Hsends Htheirs]
  · isplitl [HO]
    · isplitr; · iexact Hknown
      unfold owing; iexists _; iexact HO
    rw [bigSep_sep', bigSep_sep', bigSep_sep']
    isplitl [Ht0]; · iexact Ht0
    isplitl [Ht1]; · iexact Ht1
    isplitl [Hsends] <;> iassumption
  iintro ⟨⟨-, HO⟩, Hc0⟩
  rw [due_end, add_zero]
  -- this device's own slab
  unfold sendPts
  iapply (wp_load 𝒱₀ (c : Thread nD τ) none Set.univ (m := Memref.whole cc0_scratch0) (rows_reads c h5)) $$ Hown
  iintro Hown
  iapply (wp_load 𝒱₀ (c : Thread nD τ) none Set.univ (m := Memref.whole cc0_scratch2) (Finset.subset_univ _)) $$ Hacc
  iintro Hacc
  iapply (wp_store 𝒱₀ (c : Thread nD τ) none Set.univ (m := Memref.whole cc0_scratch2)
      (r := Rect.unit (s := S32x1024) ![0, 0] S32x1024.size inb_S32x1024_S32x1024_0_0) (Mk := Finset.univ) (f := f2) (Finset.subset_univ _)) $$ Hacc
  iintro Hacc
  have hfirst := (store_acc f2 (k0_pay3 _)).trans
    ((congrArg k0_pay3 (load_rows_at (inb := k0_off5_inb c) m c c h5)).trans (show _ = total m c 0 from rfl))
  ihave Hacc := (Entails.of_eq (congrArg (fun f => (((Memref.whole cc0_scratch2 : Memref sig .tc .vmem S32x1024 .f32).access
    (Rect.unit (s := S32x1024) ![0, 0] S32x1024.size inb_S32x1024_S32x1024_0_0)).loc (c : Thread nD τ) ↦{fullShare} f : sProp 𝕄)) hfirst)) $$ Hacc
  -- and the others'
  iapply (wp_loop_family frame (wpE (defs₀ (F := F)) 𝒱₀ (c : Thread nD τ) none) Set.univ k0_t3_loop k0_t3_ok trips3 _
      (fun n => iprop(known m K ∗ owing c (due (oweXfer c 3) 0) ∗ accPts c (total m c n)))
      (fun t => iprop(cred (tallyAt (cell c 1 t.rev) () N) ∗ atPos ER (cell c 1 t.rev) 0 ∅ 0))
      (fun t => iprop(atPos ER (cell c 1 t.rev) 1 ∅ 0 ∗ slotPts c (peer c t.rev) (gathered m c))) (step3 m K c)) $$ [HO Hacc Hc1 Hat1]
  · isplitl [HO Hacc]
    · isplitr; · iexact Hknown
      isplitl [HO]; · iexact HO
      unfold accPts; iexact Hacc
    rw [bigSep_sep']
    isplitl [Hc1]
    · iapply (Entails.of_eq (bigSep_rev fun t => (cred (tallyAt (cell c 1 t) () N) : sProp 𝕄))); iexact Hc1
    · iapply (Entails.of_eq (bigSep_rev fun t => (atPos ER (cell c 1 t) 0 ∅ 0 : sProp 𝕄))); iexact Hat1
  iintro ⟨⟨-, HO, Hacc⟩, Hgot⟩
  ihave Hgot := (Entails.of_eq ((bigSep_rev fun t => (iprop(atPos ER (cell c 1 t) 1 ∅ 0 ∗ slotPts c (peer c t) (gathered m c)) : sProp 𝕄)).symm.trans
    (bigSep_sep' _ _ _))) $$ Hgot
  icases Hgot with ⟨Hat1, Hslots⟩
  unfold accPts
  iapply (wp_load 𝒱₀ (c : Thread nD τ) none Set.univ (m := Memref.whole cc0_scratch2) (Finset.subset_univ _)) $$ Hacc
  iintro Hacc
  rw [wp_ret]; imodintro
  isplitr; · ipureintro; exact ⟨rfl, load_acc (total m c 31)⟩
  unfold afterReduce sendPts
  isplitl [HO]; · iexact HO
  isplitl [Hatbar]; · iexact Hatbar
  isplitl [Hc0]; · iexact Hc0
  isplitl [Hat1]; · iexact Hat1
  isplitl [HA]; · unfold bufPts; iexact HA
  isplitl [HB]; · unfold bufPts; iexact HB
  isplitl [Hrows]; · iexact Hrows
  isplitl [Htheirrows]; · iexact Htheirrows
  isplitl [Hown]; · iexact Hown
  isplitl [Hslot Hslots]
  · iapply (slots_join c (gathered m c))
    isplitl [Hslot] <;> iassumption
  iexists _; unfold bufPts; iexact Hacc

end Phase

end Cert.KernelIdealProof

end
-- ==== Proof.KernelIdealBody.lean ====
/-
# `KernelIdealBody`: the whole kernel on one device

After `reduce_phase` device `c` stores its finished rows, sends them to every peer, waits for the peers' rows, and waits for
its own transfers to be done with their sources; then the round of every semaphore is over and its counter is back at
zero (`body_run`).
-/
module

public import proofs.«01_k».proof.Proof.KernelIdealReduce

@[expose] public section

noncomputable section

namespace Cert.KernelIdealProof

open Cert.KernelIdeal Cert.KernelIdeal.Gen Cert.Walk
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (m : (ℓ : Loc nD τ sig) → Buf (Elt F) ℓ) (K : Dev nD × Option (Fin 4 × Fin 31) → ℕ) (c : Dev nD)

/-! ## The finished rows -/

/-- The store of the finished rows touches this device's rows only. -/
theorem own_rows_within {off : Fin 2 → ℕ} {inb : ∀ a, off a + S32x1024.size a ≤ S1024x1024.size a} (b : Fin 32) (ho : off = ![32 * b.val, 0]) :
    ((Memref.whole cc0_stg2_0 : Memref sig .tc .vmem S1024x1024 .bf16).access (Rect.unit (s := S1024x1024) off S32x1024.size inb)).setOn Finset.univ
      ⊆ (outMem b).view.set := by
  subst ho; exact Finset.Subset.refl _
/-- So does the load at the same place. -/
theorem own_rows_read {off : Fin 2 → ℕ} {inb : ∀ a, off a + S32x1024.size a ≤ S1024x1024.size a} (b : Fin 32) (ho : off = ![32 * b.val, 0]) :
    (Memref.whole cc0_stg2_0 : Memref sig .tc .vmem S1024x1024 .bf16).view.setOn
      (Rect.unit (s := S1024x1024) off S32x1024.size inb).toLoadRect.set ⊆ (outMem b).view.set := by
  subst ho
  rw [outMem_set, ← View.set_slice_whole cc0_stg2_0 (rowRect b), View.set_slice]
  exact Finset.Subset.refl _
/-- The store of the finished rows leaves the result there. -/
theorem store_own_rows {off : Fin 2 → ℕ} {inb : ∀ a, off a + S32x1024.size a ≤ S1024x1024.size a} (ho : off = ![32 * c.val, 0])
    (f : (cc0_stg2_0 : Ref sig .tc).ty.Contents (Elt F)) (w : Vec F S32x1024 .bf16) (hw : w = result m c) :
    (((Memref.whole cc0_stg2_0 : Memref sig .tc .vmem S1024x1024 .bf16).access (Rect.unit (s := S1024x1024) off S32x1024.size inb)).loc (c : Thread nD τ)
        ↦[(outMem c).view.set]{fullShare}
        ((Memref.whole cc0_stg2_0 : Memref sig .tc .vmem S1024x1024 .bf16).access (Rect.unit (s := S1024x1024) off S32x1024.size inb)).write (Elt F) f w Finset.univ : sProp 𝕄)
      = outPts c c fullShare (output m) := by
  subst ho hw
  unfold outPts
  exact pointsTo_congr fun i hi => store_rows m c f i (by rw [← outMem_set]; exact hi)

/-! ## Closing the cells -/

/-- A family of cells whose round is over: their counters are zero and this device's. -/
theorem close_family (k : Fin 4) :
    iprop(known m K ∗ bigSep Finset.univ fun u => atPos ER (cell c k u) 1 ∅ 0)
      ⊢ (|={Set.univ}=> bigSep Finset.univ fun u => semVal (cell c k u) 0 : sProp 𝕄) := by
  refine BIBase.Entails.trans ?_ (bigSep_fupd _ _)
  refine BI.bigSep_with_persistent fun u _ => ?_
  refine BIBase.Entails.trans ?_ (Rounds.cell_close ER (sched m) (Set.mem_univ (K (c, some (k, u)))) (fun h => h) (R := 1) (duties_later m (cell c k u)))
  iintro ⟨H, Hat⟩
  isplitl [H]; · iapply (known_inv m K (c, some (k, u))); iexact H
  iexact Hat

/-- All of this device's semaphores at zero. -/
def closed : sProp 𝕄 :=
  iprop((bigSep Finset.univ fun k => bigSep Finset.univ fun i => semVal ((c : Thread nD τ), .dma (dsem k i)) 0) ∗ semVal (barCell c) 0)

/-- They are the spare semaphores, the cells of the four families, and the barrier. -/
theorem closed_eq : (closed c : sProp 𝕄)
    = iprop(spare (F := F) c ∗ (bigSep Finset.univ fun k => bigSep Finset.univ fun u => semVal (cell c k u) 0) ∗ semVal (barCell c) 0) := by
  unfold closed spare
  rw [show (bigSep Finset.univ fun k => bigSep Finset.univ fun i => semVal ((c : Thread nD τ), .dma (dsem k i)) 0 : sProp 𝕄)
        = iprop((bigSep Finset.univ fun k => semVal ((c : Thread nD τ), .dma (dsem k (home k c))) 0)
          ∗ bigSep Finset.univ fun k => bigSep Finset.univ fun u => semVal (cell c k u) 0) from by
      rw [← bigSep_sep']
      exact bigSep_congr fun k _ => bigSep_around (home k c) _]
  exact equiv_iff.mp ⟨BI.sep_assoc, BI.sep_assoc'⟩

/-! ## The body -/

/-- What the body starts from, its ghost state under the names `K`. -/
def atEntry : sProp 𝕄 :=
  iprop(known m K ∗ tokens c ∗ positions c ∗ credits c ∗ spare c ∗ owing c (O₀ c)
    ∗ bufPts c cc0_stg0_0 (inA m c) ∗ bufPts c cc0_stg1_0 (inB m c) ∗ (∃ f, bufPts (F := F) c cc0_stg2_0 f)
    ∗ (∃ f, bufPts (F := F) c cc0_scratch0 f) ∗ (∃ f, bufPts (F := F) c cc0_scratch1 f) ∗ (∃ f, bufPts (F := F) c cc0_scratch2 f))

/-- What it ends with: the whole result in the result buffer. -/
def atExit : sProp 𝕄 :=
  iprop(owing c 0 ∗ closed c
    ∗ bufPts c cc0_stg0_0 (inA m c) ∗ bufPts c cc0_stg1_0 (inB m c) ∗ bufPts c cc0_stg2_0 (output m)
    ∗ (∃ f, bufPts (F := F) c cc0_scratch0 f) ∗ (∃ f, bufPts (F := F) c cc0_scratch1 f) ∗ (∃ f, bufPts (F := F) c cc0_scratch2 f))

/-- The kernel's run on device `c`. -/
theorem body_run :
    atEntry m K c ⊢ wp frame (wpE (defs₀ (F := F)) 𝒱₀ (c : Thread nD τ) none) Set.univ (atArgs (cc0_body (F := F))) fun _ => atExit m c := by
  have h5 := k0_off5_eq c
  simp only [atArgs, cc0_body_eq_skeleton]
  unfold cc0_body_skel
  rw [wp_bind]
  unfold atEntry tokens positions credits
  rw [four]
  iintro ⟨#Hknown, ⟨Htbar, Ht1, Ht3, Ht0, Ht2⟩, ⟨Hatbar, Hat0, Hat1, Hat2, Hat3⟩, ⟨Hcbar, Hc1, Hc3⟩, Hspare, HO, HA, HB, Hout, Hs0, Hs1, Hs2⟩
  iapply (wp_wand_r frame (wpE (defs₀ (F := F)) 𝒱₀ (c : Thread nD τ) none) Set.univ)
  isplitl [Htbar Ht1 Ht0 Hatbar Hat1 Hcbar Hc1 HO HA HB Hout Hs0 Hs1 Hs2]
  · iapply (reduce_phase m K c)
    isplitr; · iexact Hknown
    unfold beforeReduce
    isplitl [HO]; · iexact HO
    isplitl [Htbar]; · iexact Htbar
    isplitl [Ht1]; · iexact Ht1
    isplitl [Ht0]; · iexact Ht0
    isplitl [Hatbar]; · iexact Hatbar
    isplitl [Hcbar]; · iexact Hcbar
    isplitl [Hat1]; · iexact Hat1
    isplitl [Hc1]; · iexact Hc1
    isplitl [HA]; · iexact HA
    isplitl [HB]; · iexact HB
    isplitl [Hout]; · iexact Hout
    isplitl [Hs0]; · iexact Hs0
    isplitl [Hs1] <;> iassumption
  iintro %r ⟨%hr, Hafter⟩
  obtain ⟨d0, v2, v23⟩ := r
  obtain ⟨rfl, hv⟩ : d0 = c ∧ v23 = total m c 31 := hr
  simp only [Prog.lift, Prog.bind_op, Prog.bind_ret, Prog.pure_eq_ret]
  unfold afterReduce
  icases Hafter with ⟨HO, Hatbar, Hc0, Hat1, HA, HB, ⟨%fo, Hrows⟩, Htheirrows, Hown, Hs1, Hs2⟩
  -- the finished rows stored
  unfold outPts
  iapply (wp_load 𝒱₀ (d0 : Thread nD τ) none Set.univ (m := Memref.whole cc0_stg2_0) (own_rows_read d0 h5)) $$ Hrows
  iintro Hrows
  iapply (wp_store 𝒱₀ (d0 : Thread nD τ) none Set.univ (m := Memref.whole cc0_stg2_0)
      (r := Rect.unit (s := S1024x1024) (k0_off5 d0) S32x1024.size (k0_off5_inb d0)) (Mk := Finset.univ) (f := fo) (own_rows_within d0 h5)) $$ Hrows
  iintro Hrows
  ihave Hrows := (Entails.of_eq ((store_own_rows m d0 (inb := k0_off5_inb d0) h5 fo (k0_pay1 v23) (by rw [hv]; rfl)).trans (out_pieces d0 (output m)))) $$ Hrows
  -- and sent
  iapply (wp_loop_family frame (wpE (defs₀ (F := F)) 𝒱₀ (d0 : Thread nD τ) none) Set.univ k0_t4_loop k0_t4_ok trips4 _
      (fun n => iprop(known m K ∗ owing d0 (0 + due (oweXfer d0 3) n)))
      (fun t => iprop(dutyTok ER (cell d0 2 t) 0 t ∗ dutyTok ER (cell (peer d0 t) 3 t.rev) 0 t.rev
          ∗ outPts d0 d0 (piece t) (output m) ∗ ∃ f, outPts (F := F) (peer d0 t) d0 fullShare f))
      (fun t => cred (tallyAt (cell d0 2 t) () N)) (step4 m K d0 0)) $$ [HO Ht2 Ht3 Hrows Htheirrows]
  · isplitl [HO]
    · isplitr; · iexact Hknown
      rw [zero_add]; iexact HO
    rw [bigSep_sep', bigSep_sep', bigSep_sep']
    isplitl [Ht2]; · iexact Ht2
    isplitl [Ht3]; · iexact Ht3
    isplitl [Hrows]; · iexact Hrows
    unfold outPts; iexact Htheirrows
  iintro ⟨⟨-, HO⟩, Hc2⟩
  rw [due_end, add_zero]
  -- the peers' rows
  iapply (wp_loop_family frame (wpE (defs₀ (F := F)) 𝒱₀ (d0 : Thread nD τ) none) Set.univ k0_t5_loop k0_t5_ok trips5 _
      (fun n => iprop(known m K ∗ owing d0 0))
      (fun t => iprop(cred (tallyAt (cell d0 3 t.rev) () N) ∗ atPos ER (cell d0 3 t.rev) 0 ∅ 0))
      (fun t => iprop(atPos ER (cell d0 3 t.rev) 1 ∅ 0 ∗ outPts d0 (peer d0 t.rev) fullShare (output m))) (step5 m K d0)) $$ [HO Hc3 Hat3]
  · isplitl [HO]
    · isplitr; · iexact Hknown
      iexact HO
    rw [bigSep_sep']
    isplitl [Hc3]
    · iapply (Entails.of_eq (bigSep_rev fun t => (cred (tallyAt (cell d0 3 t) () N) : sProp 𝕄))); iexact Hc3
    · iapply (Entails.of_eq (bigSep_rev fun t => (atPos ER (cell d0 3 t) 0 ∅ 0 : sProp 𝕄))); iexact Hat3
  iintro ⟨⟨-, HO⟩, Hgot⟩
  ihave Hgot := (Entails.of_eq ((bigSep_rev fun t => (iprop(atPos ER (cell d0 3 t) 1 ∅ 0 ∗ outPts d0 (peer d0 t) fullShare (output m)) : sProp 𝕄)).symm.trans
    (bigSep_sep' _ _ _))) $$ Hgot
  icases Hgot with ⟨Hat3, Hpeers⟩
  -- this device's transfers, done with the send buffer
  iapply (wp_loop_family frame (wpE (defs₀ (F := F)) 𝒱₀ (d0 : Thread nD τ) none) Set.univ k0_t6_loop k0_t6_ok trips6 _
      (fun n => iprop(known m K ∗ owing d0 0))
      (fun t => iprop(cred (tallyAt (cell d0 0 t) () N) ∗ atPos ER (cell d0 0 t) 0 ∅ 0))
      (fun t => iprop(atPos ER (cell d0 0 t) 1 ∅ 0 ∗ sendPts d0 (peer d0 t) (partial_ m d0))) (step6 m K d0)) $$ [HO Hc0 Hat0]
  · isplitl [HO]
    · isplitr; · iexact Hknown
      iexact HO
    rw [bigSep_sep']
    isplitl [Hc0] <;> iassumption
  iintro ⟨⟨-, HO⟩, Hgot⟩
  ihave Hgot := (Entails.of_eq (bigSep_sep' _ _ _)) $$ Hgot
  icases Hgot with ⟨Hat0, Hsends⟩
  -- and with the finished rows
  iapply (wp_loop_family frame (wpE (defs₀ (F := F)) 𝒱₀ (d0 : Thread nD τ) none) Set.univ k0_t7_loop k0_t7_ok trips7 _
      (fun n => iprop(known m K ∗ owing d0 0))
      (fun t => iprop(cred (tallyAt (cell d0 2 t) () N) ∗ atPos ER (cell d0 2 t) 0 ∅ 0))
      (fun t => iprop(atPos ER (cell d0 2 t) 1 ∅ 0 ∗ outPts d0 d0 (piece t) (output m))) (step7 m K d0)) $$ [HO Hc2 Hat2]
  · isplitl [HO]
    · isplitr; · iexact Hknown
      iexact HO
    rw [bigSep_sep']
    isplitl [Hc2] <;> iassumption
  iintro ⟨⟨-, HO⟩, Hgot⟩
  ihave Hgot := (Entails.of_eq (bigSep_sep' _ _ _)) $$ Hgot
  icases Hgot with ⟨Hat2, Hpieces⟩
  ihave Hrows := (Entails.of_eq (out_pieces d0 (output m)).symm) $$ Hpieces
  -- every cell's round is over
  imod (close_family m K d0 0) $$ [Hat0] with Hz0
  · isplitr; · iexact Hknown
    iexact Hat0
  imod (close_family m K d0 1) $$ [Hat1] with Hz1
  · isplitr; · iexact Hknown
    iexact Hat1
  imod (close_family m K d0 2) $$ [Hat2] with Hz2
  · isplitr; · iexact Hknown
    iexact Hat2
  imod (close_family m K d0 3) $$ [Hat3] with Hz3
  · isplitr; · iexact Hknown
    iexact Hat3
  ihave #HI := (known_inv m K (d0, none)) $$ Hknown
  imod (Rounds.cell_close ER (sched m) (Set.mem_univ (K (d0, none))) (fun h => h) (R := 1) (duties_later m (barCell d0))) $$ [Hatbar] with Hzbar
  · isplitr; · iexact HI
    iexact Hatbar
  rw [wp_ret]; imodintro
  unfold atExit
  isplitl [HO]; · iexact HO
  isplitl [Hspare Hz0 Hz1 Hz2 Hz3 Hzbar]
  · iapply (Entails.of_eq (closed_eq d0).symm)
    isplitl [Hspare]; · iexact Hspare
    isplitr [Hzbar]
    · rw [four]
      isplitl [Hz0]; · iexact Hz0
      isplitl [Hz1]; · iexact Hz1
      isplitl [Hz2] <;> iassumption
    iexact Hzbar
  isplitl [HA]; · iexact HA
  isplitl [HB]; · iexact HB
  isplitl [Hrows Hpeers]
  · rw [out_around]
    isplitl [Hrows] <;> iassumption
  isplitl [Hown Hsends]
  · iexists (partial_ m d0)
    rw [send_around]
    isplitl [Hown] <;> iassumption
  isplitl [Hs1] <;> iassumption

end Body

end Cert.KernelIdealProof

end
-- ==== Proof.KernelIdealDeal.lean ====
/-
# What the launch deals

The launch mints a token for every duty and hands each device the tokens of its own cells.  Each token is wanted
by the device that pays the duty, so the tokens of the barriers and of the two receive families go round the mesh;
those of the send families stay.  The promises of what a device waits for are the sum of what all devices owe.
-/
module

public import proofs.«01_k».proof.Proof.KernelIdealBody
public import Idealize.ShloMosaic.Lib.Pipeline.Launch
public import Idealize.ShloMosaic.Lib.Pipeline.Kit

@[expose] public section

noncomputable section

namespace Cert.KernelIdealProof

open Cert.KernelIdeal Cert.KernelIdeal.Gen Cert.Walk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and tokens -/

/-- A conjunction over an optional index. -/
theorem bigSep_opt {I : Type} [Fintype I] [DecidableEq I] (Φ : Option I → sProp 𝕄) :
    bigSep Finset.univ Φ = iprop(Φ none ∗ bigSep Finset.univ fun i => Φ (some i)) := by
  rw [bigSep_univ_at Φ none, show (Finset.univ.erase none : Finset (Option I)) = Finset.univ.map Function.Embedding.some from by
    ext x; cases x <;> simp, BI.bigSep_map]
  rfl

/-- A conjunction over a device's cells: the barrier, and the four families. -/
theorem bigSep_cells (c : Dev nD) (Φ : GSem nD τ sig → sProp 𝕄) :
    (bigSep Finset.univ fun x => Φ (kcell (c, x)))
      = iprop(Φ (barCell c) ∗ bigSep Finset.univ fun k => bigSep Finset.univ fun u => Φ (cell c k u)) := by
  rw [bigSep_opt, BI.bigSep_univ_prod]
  rfl

/-- Every cell in use, on every device. -/
def allCells : Finset (GSem nD τ sig) := Finset.univ.map ⟨kcell, kcell_injective⟩

/-- The cell whose duty a token is for. -/
def tokCell : Dev nD × Option (Fin 4) × Fin 31 → GSem nD τ sig
  | (c, none, _) => barCell c
  | (c, some k, u) => cell c k u
/-- The tokens minted: every device's barrier's 31, and one for every other cell. -/
def tokOf (x : Dev nD × Option (Fin 4) × Fin 31) : GSem nD τ sig × ℕ × Fin 31 := (tokCell x, 0, x.2.2)

/-- No token is minted twice. -/
theorem tokOf_injective : Function.Injective tokOf := by
  rintro ⟨c, x, u⟩ ⟨d, y, v⟩ h
  obtain rfl : u = v := congrArg (fun z : GSem nD τ sig × ℕ × Fin 31 => z.2.2) h
  have h₁ : tokCell (c, x, u) = tokCell (d, y, u) := congrArg Prod.fst h
  have h₂ (c x) : tokCell (c, x, u) = kcell (c, x.map fun k => (k, u)) := by cases x <;> rfl
  rw [h₂, h₂] at h₁
  have h₃ := kcell_injective h₁
  obtain ⟨rfl, h₄⟩ := Prod.mk.inj h₃
  rw [Option.map_injective (fun k l hkl => (Prod.mk.inj hkl).1) h₄]

/-- All the tokens minted. -/
def allToks : Finset (GSem nD τ sig × ℕ × Fin 31) := Finset.univ.map ⟨tokOf, tokOf_injective⟩

/-- The ghost state at the launch: the pipeline's, and every cell at the start of its round. -/
def u₀ : UU :=
  (initOf (Pipeline.cells cfgs cellOf_inj) (Pipeline.launchToks cfgs cellOf_inj), initOf allCells allToks)

/-- The tokens of device `c`'s own cells. -/
def minted (c : Dev nD) : sProp 𝕄 :=
  iprop((bigSep Finset.univ fun u => dutyTok ER (barCell c) 0 u)
    ∗ bigSep Finset.univ fun k => bigSep Finset.univ fun u => dutyTok ER (cell c k u) 0 u)

/-- What the launch element deals device `c`. -/
def G (c : Dev nD) : sProp 𝕄 :=
  iprop((bigSep Finset.univ fun x => roundState ER (sched m) (kcell (c, x)) 0)
    ∗ ((bigSep Finset.univ fun x => atPos ER (kcell (c, x)) 0 ∅ 0) ∗ bigSep Finset.univ fun x => reached ER (kcell (c, x)) 0)
    ∗ minted c)

/-- The launch's ghost state for the cells, dealt to the devices. -/
theorem fund : BI.own (ER (initOf allCells allToks)) ⊢ (|==> bigSep Finset.univ (G m) : sProp 𝕄) := by
  have hX (Φ : GSem nD τ sig → sProp 𝕄) : bigSep allCells Φ = bigSep Finset.univ fun c => bigSep Finset.univ fun x => Φ (kcell (c, x)) := by
    unfold allCells; rw [BI.bigSep_map, BI.bigSep_univ_prod]; rfl
  have hT : bigSep allToks (fun x => (dutyTok ER x.1 x.2.1 x.2.2 : sProp 𝕄)) = bigSep Finset.univ fun c => minted c := by
    unfold allToks; rw [BI.bigSep_map, BI.bigSep_univ_prod]
    refine bigSep_congr fun c _ => ?_
    unfold minted
    rw [BI.bigSep_univ_prod, bigSep_opt]
    rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- Every token to the device that pays with it. -/
theorem minted_around : (bigSep Finset.univ fun c => (minted c : sProp 𝕄)) ⊢ bigSep Finset.univ fun c => tokens c := by
  unfold minted tokens
  simp only [four, bigSep_sep']
  rw [bigSep_turn fun c u => (dutyTok ER (barCell c) 0 u : sProp 𝕄), bigSep_turn fun c u => (dutyTok ER (cell c 1 u) 0 u : sProp 𝕄),
    bigSep_turn fun c u => (dutyTok ER (cell c 3 u) 0 u : sProp 𝕄)]
  iintro ⟨Hb, H0, H1, H2, H3⟩
  isplitl [Hb]; · iexact Hb
  isplitl [H1]; · iexact H1
  isplitl [H3]; · iexact H3
  isplitl [H0] <;> iassumption

/-! ## The cells' invariants -/

/-- The kernel's own semaphores: four families of 32. -/
def osem (x : Fin 4 × Fin 32) : SemLoc sig := .dma (dsem x.1 x.2)

/-- Its own semaphores and the barrier are the cells' and the spare ones. -/
theorem sems_closed (c : Dev nD) :
    iprop(Pipeline.ownSems0 (Ix := Unit) (Name := ℕ) (U := UU) (Lvl := ℕ) (Val := Elt F) (τ := τ) osem c ∗ unscopedSems0 c) = (closed c : sProp 𝕄) := by
  have hu : (unscopedSems0 c : sProp 𝕄) = semVal (barCell c) 0 := by
    unfold unscopedSems0
    rw [bigSep_eq_bigSepL_of_eq [SemLoc.reg barS] (by decide) (by decide)]
    rfl
  rw [hu]
  unfold Pipeline.ownSems0 closed
  rw [BI.bigSep_univ_prod]
  rfl

/-- What everyone knows, but the levels. -/
def records (K : Dev nD × Option (Fin 4 × Fin 31) → ℕ) : sProp 𝕄 :=
  iprop((bigSep Finset.univ fun x => cellInv ER (sched m) (K x) (kcell x)) ∗ bigSep Finset.univ fun x => reached ER (kcell x) 0)

/-- What everyone knows may be used any number of times. -/
instance records_persistent (K) : BI.Persistent (records m K) := by unfold records; infer_instance

/-- What the global step makes of what is dealt. -/
def G' (c : Dev nD) : sProp 𝕄 := iprop((∃ K, records m K ∗ tokens c ∗ positions c) ∗ spare c)

/-- One device's cells are put under their invariants; its tokens and positions are left over. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x => iprop(∃ κ : ℕ, cellInv ER (sched m) κ (kcell (c, x))))
          ∗ (bigSep Finset.univ fun x => reached ER (kcell (c, x)) 0) ∗ minted c ∗ positions c ∗ spare c) := by
  unfold G
  iintro ⟨Hos, Hus, Hst, ⟨Hat, Hr⟩, Htok⟩
  ihave Hv := (Entails.of_eq ((sems_closed (F := F) c).trans (closed_eq c))) $$ [Hos Hus]
  · isplitl [Hos] <;> iassumption
  icases Hv with ⟨Hspare, Hfam, Hbar⟩
  imod (show iprop((bigSep Finset.univ fun x => semVal (kcell (c, x)) 0) ∗ bigSep Finset.univ fun x => roundState ER (sched m) (kcell (c, x)) 0)
      ⊢ (|={Set.univ}=> bigSep Finset.univ fun x => iprop(∃ κ : ℕ, cellInv ER (sched m) κ (kcell (c, x))) : sProp 𝕄) from by
        rw [← bigSep_sep']
        exact (bigSep_mono fun x _ => (Rounds.body_intro ER (sched m) (kcell (c, x))).trans inv_alloc).trans (bigSep_fupd _ _)) $$ [Hfam Hbar Hst] with Hinv
  · isplitl [Hfam Hbar]
    · iapply (Entails.of_eq (bigSep_cells c fun g => semVal g 0).symm)
      isplitl [Hbar] <;> iassumption
    · iexact Hst
  imodintro
  isplitl [Hinv]; · iexact Hinv
  isplitl [Hr]; · iexact Hr
  isplitl [Htok]; · iexact Htok
  isplitl [Hat]
  · unfold positions
    iapply (Entails.of_eq (bigSep_cells c fun g => atPos ER g 0 ∅ 0)); iexact Hat
  iexact Hspare

/-- Something everyone may have goes into every conjunct. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' shares put together: the invariants become known to all, and the tokens go to those who pay with them. -/
theorem regroup :
    (bigSep Finset.univ fun c => iprop((bigSep Finset.univ fun x => iprop(∃ κ : ℕ, cellInv ER (sched m) κ (kcell (c, x))))
          ∗ (bigSep Finset.univ fun x => reached ER (kcell (c, x)) 0) ∗ minted c ∗ positions c ∗ spare c) : sProp 𝕄)
      ⊢ bigSep Finset.univ (G' m) := by
  rw [bigSep_sep', bigSep_sep', bigSep_sep', bigSep_sep',
    ← BI.bigSep_univ_prod (fun x => iprop(∃ κ : ℕ, cellInv ER (sched m) κ (kcell x))),
    ← BI.bigSep_univ_prod (fun x => (reached ER (kcell x) 0 : sProp 𝕄))]
  iintro ⟨HI, #HR, Htok, Hat, Hspare⟩
  ihave HK := (BI.bigSep_exists_pi Finset.univ (fun x (κ : ℕ) => (cellInv ER (sched m) κ (kcell x) : sProp 𝕄))) $$ HI
  icases HK with ⟨%K, #HI⟩
  ihave Htok := (minted_around (F := F)) $$ Htok
  iapply (bigSep_with (R := records m K) (Φ := fun c => iprop(tokens c ∗ positions c ∗ spare c)) fun c _ => by
    unfold G'
    iintro ⟨HR, Ht, Hp, Hs⟩
    isplitr [Hs]
    · iexists K
      isplitl [HR]; · iexact HR
      isplitl [Ht] <;> iassumption
    iexact Hs)
  isplitr
  · unfold records; isplitl; · iexact HI
    iexact HR
  · simp only [bigSep_sep']
    isplitl [Htok]; · iexact Htok
    isplitl [Hat] <;> iassumption

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The promises -/

/-- What all devices together owe the cell `g`, when each owes `a` to one cell of every device it faces. -/
theorem sum_owed (fam : Dev nD → Fin 31 → GSem nD τ sig) (a : ℕ) (g : GSem nD τ sig) :
    (∑ d, due (fun t => (tallyAt (fam (peer d t) t.rev) () a : CellTallies nD τ sig Unit)) 0 g ())
      = ∑ x : Dev nD × Fin 31, if g = fam x.1 x.2 then a else 0 := by
  rw [← turn.sum_comp fun x : Dev nD × Fin 31 => if g = fam x.1 x.2 then a else 0, Fintype.sum_prod_type]
  refine Finset.sum_congr rfl fun d _ => ?_
  rw [due_zero, Finset.sum_apply, Finsupp.finset_sum_apply]
  refine Finset.sum_congr rfl fun t _ => ?_
  rw [tallyAt_apply]
  exact if_congr (and_iff_left rfl) rfl rfl

/-- To a cell of no family nothing is owed, -/
theorem sum_owed_of_ne {fam : Dev nD → Fin 31 → GSem nD τ sig} {a : ℕ} {g : GSem nD τ sig} (h : ∀ d u, g ≠ fam d u) :
    (∑ d, due (fun t => (tallyAt (fam (peer d t) t.rev) () a : CellTallies nD τ sig Unit)) 0 g ()) = 0 := by
  rw [sum_owed]
  exact Finset.sum_eq_zero fun x _ => if_neg (h x.1 x.2)

/-- No transfer's cell is a barrier, -/
theorem cell_ne_bar (c d : Dev nD) (k u) : cell c k u ≠ barCell d := fun h =>
  absurd (kcell_injective (a₁ := (c, some (k, u))) (a₂ := (d, none)) h) (by intro h'; cases h')
/-- and cells of different families are different. -/
theorem cell_ne {k l : Fin 4} (hkl : k ≠ l) (c d : Dev nD) (u v) : cell c k u ≠ cell d l v := fun h =>
  hkl (Prod.mk.inj (Option.some.inj (Prod.mk.inj (kcell_injective (a₁ := (c, some (k, u))) (a₂ := (d, some (l, v))) h)).2)).1

/-- one transfer's bytes to each receive cell, -/
theorem sum_owed_cell (k : Fin 4) (c : Dev nD) (u : Fin 31) : (∑ d, due (oweXfer d k) 0 (cell c k u) ()) = N := by
  refine (sum_owed (fun d v => cell d k v) N (cell c k u)).trans ?_
  rw [Finset.sum_eq_single (c, u) (fun x _ hx => if_neg fun h => hx ?_) fun h => absurd (Finset.mem_univ _) h, if_pos rfl]
  have h' := kcell_injective (a₁ := (c, some (k, u))) (a₂ := (x.1, some (k, x.2))) h
  obtain ⟨h₁, h₂⟩ := Prod.mk.inj h'
  exact (Prod.ext h₁ (Prod.mk.inj (Option.some.inj h₂)).2).symm

/-- and a unit from each peer to each barrier. -/
theorem sum_owed_bar (c : Dev nD) : (∑ d, due (oweBar d) 0 (barCell c) ()) = 31 := by
  refine (sum_owed (fun d _ => barCell d) 1 (barCell c)).trans ?_
  rw [Fintype.sum_prod_type, Finset.sum_eq_single c (fun d _ hd => Finset.sum_eq_zero fun u _ => if_neg fun h => hd ?_)
    fun h => absurd (Finset.mem_univ _) h]
  · simp
  · exact (Prod.mk.inj (kcell_injective (a₁ := (c, none)) (a₂ := (d, none)) h)).1.symm

/-- What is promised to a cell at the launch, by the three kinds of debts. -/
theorem launchCredit_split (g : GSem nD τ sig) :
    launchCredit (Pipeline.owing O₀) 0 g () = ((∑ d, due (oweXfer d 3) 0 g ()) + ∑ d, due (oweXfer d 1) 0 g ()) + ∑ d, due (oweBar d) 0 g () := by
  rw [Pipeline.launchCredit_owing, ← Finset.sum_add_distrib, ← Finset.sum_add_distrib]
  rfl

/-- A promise to one cell, from its amount. -/
theorem tallyOn_eq (g : GSem nD τ sig) (n : ℕ) (h : launchCredit (Pipeline.owing O₀) 0 g () = n) :
    tallyOn g (launchCredit (Pipeline.owing O₀) 0 g) = (tallyAt g () n : CellTallies nD τ sig Unit) := by
  unfold tallyAt
  refine congrArg _ (Finsupp.ext fun i => ?_)
  cases i
  rw [h, Finsupp.single_eq_same]

/-- A barrier is promised 31 units; -/
theorem launch_bar (c : Dev nD) : launchCredit (Pipeline.owing O₀) 0 (barCell c) () = 31 := by
  rw [launchCredit_split, sum_owed_bar, show (∑ d, due (oweXfer d 3) 0 (barCell c) ()) = 0 from sum_owed_of_ne (fam := fun d u => cell d 3 u) fun d u h => cell_ne_bar d c 3 u h.symm,
    show (∑ d, due (oweXfer d 1) 0 (barCell c) ()) = 0 from sum_owed_of_ne (fam := fun d u => cell d 1 u) fun d u h => cell_ne_bar d c 1 u h.symm]
/-- a receive cell of the reduce-scatter one transfer; -/
theorem launch_cell1 (c : Dev nD) (u) : launchCredit (Pipeline.owing O₀) 0 (cell c 1 u) () = N := by
  rw [launchCredit_split, sum_owed_cell, show (∑ d, due (oweXfer d 3) 0 (cell c 1 u) ()) = 0 from sum_owed_of_ne (fam := fun d u => cell d 3 u) fun d v => cell_ne (by decide) c d u v,
    show (∑ d, due (oweBar d) 0 (cell c 1 u) ()) = 0 from sum_owed_of_ne (fam := fun d _ => barCell d) fun d _ => cell_ne_bar c d 1 u, Nat.zero_add, Nat.add_zero]
/-- and one of the all-gather likewise. -/
theorem launch_cell3 (c : Dev nD) (u) : launchCredit (Pipeline.owing O₀) 0 (cell c 3 u) () = N := by
  rw [launchCredit_split, sum_owed_cell, show (∑ d, due (oweXfer d 1) 0 (cell c 3 u) ()) = 0 from sum_owed_of_ne (fam := fun d u => cell d 1 u) fun d v => cell_ne (by decide) c d u v,
    show (∑ d, due (oweBar d) 0 (cell c 3 u) ()) = 0 from sum_owed_of_ne (fam := fun d _ => barCell d) fun d _ => cell_ne_bar c d 3 u, Nat.add_zero]

/-- The semaphore of one of a device's cells. -/
def semOf (c : Dev nD) (x : Option (Fin 4 × Fin 31)) : SemLoc sig := (kcell (c, x)).2
/-- A cell is its device's core and its semaphore. -/
theorem kcell_eq (c : Dev nD) (x) : kcell (c, x) = ((c : Thread nD τ), semOf c x) := by rcases x with _ | ⟨k, u⟩ <;> rfl
/-- A device's cells have different semaphores. -/
theorem semOf_injective (c : Dev nD) : Function.Injective (semOf c) := fun x y h =>
  (Prod.mk.inj (kcell_injective (by rw [kcell_eq, kcell_eq, h] : kcell (c, x) = kcell (c, y)))).2

/-- A device's promises at the launch hold those the body needs. -/
theorem creds (c : Dev nD) : (Pipeline.launchCred O₀ c : sProp 𝕄) ⊢ credits c := by
  unfold Pipeline.launchCred
  refine (bigSep_subset (Finset.subset_univ (Finset.univ.map ⟨semOf c, semOf_injective c⟩))).trans ?_
  rw [BI.bigSep_map]
  refine (Entails.of_eq (bigSep_congr (Ψ := fun x => (fun g => (cred (tallyOn g (launchCredit (Pipeline.owing O₀) 0 g)) : sProp 𝕄)) (kcell (c, x)))
    fun x _ => by rw [kcell_eq]; rfl)).trans ?_
  rw [bigSep_cells c (fun g => (cred (tallyOn g (launchCredit (Pipeline.owing O₀) 0 g)) : sProp 𝕄)), four]
  unfold credits
  simp only [tallyOn_eq _ _ (launch_bar c), tallyOn_eq _ _ (launch_cell1 c _), tallyOn_eq _ _ (launch_cell3 c _)]
  iintro ⟨Hb, -, H1, -, H3⟩
  isplitl [Hb]; · iexact Hb
  isplitl [H1] <;> iassumption

end Cert.KernelIdealProof

end
-- ==== Proof.KernelIdealLaunch.lean ====
/-
# The launch

The windows' contents around the body, the body's obligation from `body_run`, and the run of the whole program: the
32 devices' kernels together, from any memory with every counter at zero.
-/
module

public import proofs.«01_k».proof.Proof.KernelIdealDeal
public import proofs.«01_k».proof.Proof.Gen.KernelIdeal.Points
public import Idealize.ShloMosaic.Lib.Pipeline.CollectiveSegs
public import Idealize.ShloMosaic.Lib.Pipeline.ValueKit.Geometry

@[expose] public section

noncomputable section

namespace Cert.KernelIdealProof

open Cert.KernelIdeal Cert.KernelIdeal.Gen Cert.Walk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- The scratch buffers, at some contents. -/
def scratch (c : Dev nD) : sProp 𝕄 :=
  iprop((∃ f, bufPts c cc0_scratch0 f) ∗ (∃ f, bufPts c cc0_scratch1 f) ∗ (∃ f, bufPts c cc0_scratch2 f))

/-- The windows' contents and what else the body starts from and leaves. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inA m c
    | ⟨1, _⟩ => inB m c
    | ⟨2, _⟩ => output m
  Φ t := match t with
    | ⟨0, _⟩ => iprop(start m c ∗ scratch c)
    | ⟨_ + 1, _⟩ => iprop(closed c ∗ scratch c)
  q _ := fullShare
  owed t := match t with
    | ⟨0, _⟩ => O₀ c
    | ⟨_ + 1, _⟩ => 0

/-- A whole buffer held at given contents, written out. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ bufPts c b f) := by
  unfold owns; simp only [Memref.view_whole, View.read_whole, View.set_whole]; rfl

/-- A staging buffer held at given contents. -/
abbrev stg (c : Dev nD) (b : Ref sig .tc) (X : b.ty.Contents (Elt F)) : sProp 𝕄 :=
  iprop(∃ f : Buf (Elt F) ((c : Thread nD τ).loc b), ⌜f = X⌝ ∗ bufPts c b f)

set_option maxRecDepth 4000 in
/-- What the body starts from, as the pipeline gives it, -/
def bodyPre (c : Dev nD) : sProp 𝕄 :=
  iprop((start m c ∗ scratch c) ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- and what it leaves. -/
def bodyPost (c : Dev nD) : sProp 𝕄 :=
  iprop((closed c ∗ scratch c) ∗ (dats m ρ 0 c).owesAt () t0_0.succ
    ∗ stg c cc0_stg0_0 (inA m c) ∗ stg c cc0_stg1_0 (inB m c) ∗ stg c cc0_stg2_0 (output m))

/-- The operands are staged whole. -/
theorem fetched_A (c : Dev nD) (d) : (dats m ρ 0 c).fetched (0 : Fin 3) t0_0 d = inA m c := by
  funext j
  show inA m c (((cfg0.win (0 : Fin 3)).rect t0_0).emb j) = inA m c j
  refine congrArg _ (funext fun a => Fin.ext ?_)
  exact (cfg0.win (0 : Fin 3)).rect_emb_val_of_index_zero t0_0 a rfl j
/-- The second operand too. -/
theorem fetched_B (c : Dev nD) (d) : (dats m ρ 0 c).fetched (1 : Fin 3) t0_0 d = inB m c := by
  funext j
  show inB m c (((cfg0.win (1 : Fin 3)).rect t0_0).emb j) = inB m c j
  refine congrArg _ (funext fun a => Fin.ext ?_)
  exact (cfg0.win (1 : Fin 3)).rect_emb_val_of_index_zero t0_0 a rfl j

/-- What the pipeline gives is what the body starts from. -/
theorem entry (c : Dev nD) : bodyPre m ρ c ⊢ iprop(∃ K, atEntry m K c) := by
  unfold bodyPre start scratch
  iintro ⟨⟨⟨⟨%K, Hk, Ht, Hp⟩, Hc, Hs⟩, Hs0, Hs1, Hs2⟩, Ho, ⟨%d0, %g0, %hg0, H0⟩, ⟨%d1, %g1, %hg1, H1⟩, ⟨%d2, %g2, %hg2, H2⟩⟩
  have h0 : g0 = inA m c := by rw [hg0]; unfold Dat.before; rw [if_pos (fetch0_0 t0_0)]; exact fetched_A m ρ c d0
  have h1 : g1 = inB m c := by rw [hg1]; unfold Dat.before; rw [if_pos (fetch0_1 t0_0)]; exact fetched_B m ρ c d1
  subst h0
  subst h1
  unfold Dat.owesAt Pipeline.owesWithin
  icases Ho with ⟨%W, %hW, HO⟩
  rw [show (dats m ρ 0 c).owed t0_0.castSucc = O₀ c from rfl]
  iexists K
  unfold atEntry owing
  isplitl [Hk]; · iexact Hk
  isplitl [Ht]; · iexact Ht
  isplitl [Hp]; · iexact Hp
  isplitl [Hc]; · iexact Hc
  isplitl [Hs]; · iexact Hs
  isplitl [HO]; · iexists W; iexact HO
  isplitl [H0]; · iexact H0
  isplitl [H1]; · iexact H1
  isplitl [H2]; · iexists g2; iexact H2
  isplitl [Hs0]; · iexact Hs0
  isplitl [Hs1] <;> iassumption

/-- What the body leaves is what the pipeline wants. -/
theorem exit_ (c : Dev nD) : atExit m c ⊢ bodyPost m ρ c := by
  unfold atExit bodyPost scratch owing
  iintro ⟨⟨%W, HO⟩, Hz, H0, H1, H2, Hs⟩
  isplitl [Hz Hs]
  · isplitl [Hz] <;> iassumption
  isplitl [HO]
  · unfold Dat.owesAt Pipeline.owesWithin
    rw [show (dats m ρ 0 c).owed t0_0.succ = 0 from rfl]
    iexists W
    isplitr; · ipureintro; exact fun _ _ => Or.inl trivial
    iexact HO
  isplitl [H0]
  · iexists (inA m c); isplitr; · ipureintro; rfl
    iexact H0
  isplitl [H1]
  · iexists (inB m c); isplitr; · ipureintro; rfl
    iexact H1
  iexists (output m); isplitr; · ipureintro; rfl
  iexact H2

set_option maxRecDepth 4000 in
/-- The body's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (atArgs (cc0_body (F := F))) fun _ => bodyPost m ρ c
  refine BIBase.Entails.trans (entry m ρ c) ?_
  iintro ⟨%K, H⟩
  iapply (wp_wand_r frame (wpE (defs₀ (F := F)) 𝒱₀ (c : Thread nD τ) none) Set.univ (Q := fun _ => atExit m c))
  isplitl [H]
  · iapply (body_run m K c); iexact H
  · iintro %_ H; iapply (exit_ m ρ c); iexact H

/-! ## The launch's side conditions -/

/-- The kernel's own semaphores come after the three that stage the windows; -/
theorem dsem_ge (k : Fin 4) (i : Fin 32) : 3 ≤ (dsem k i).val := by revert k i; decide
/-- and those that stage the windows are the first three. -/
theorem stage_lt (w : Fin cfg0.W) (s : Fin (cfg0.spec w).nbuf) : ((cfg0.spec w).sem s).val < 3 := by
  fin_cases w <;> fin_cases s <;> decide

/-- The kernel's own semaphores are scoped, pairwise different, and none of them stages a window. -/
theorem ownSemFacts : Pipeline.OwnSemFacts cfg0.spec osem where
  isScoped := by decide
  inj := fun x y h => dsem_injective (SemLoc.dma.inj h)
  disj := fun x w s h => by
    have h₁ : (dsem x.1 x.2).val = ((cfg0.spec w).sem s).val := congrArg Fin.val (SemLoc.dma.inj h)
    have h₂ := stage_lt w s
    have h₃ := dsem_ge x.1 x.2
    omega

/-- Every window's array is held whole. -/
theorem share_eq (c : Dev nD) (w : Fin cfg0.W) : (dats m ρ 0 c).share w = fullShare := by unfold Dat.share; split <;> rfl

/-- What the launch hands device `c` is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' records known
  iintro ⟨-, Hlev, Hcr, -, ⟨%K, ⟨HI, HR⟩, Ht, Hp⟩, Hs⟩
  ihave Hc := (creds (F := F) c) $$ Hcr
  imodintro
  isplitl
  · isplitr [Hc Hs]
    · iexists K
      isplitl [HI HR Hlev]
      · isplitl [HI]; · iexact HI
        isplitl [HR] <;> iassumption
      isplitl [Ht] <;> iassumption
    isplitl [Hc] <;> iassumption
  · iempintro

/-- With the scratch buffers it is the state before the one grid step; -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scopedRest0_eq]
  unfold scratch
  iintro ⟨Hs, -, Hr⟩
  isplitl [Hs]; · iexact Hs
  iexact Hr

/-- and the state after it gives the semaphores and the scratch buffers back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(closed c ∗ scratch c) from rfl, scopedRest0_eq, ← sems_closed]
  unfold scratch
  iintro ⟨⟨Ho, Hu⟩, Hr⟩
  isplitl [Hu]; · iexact Hu
  isplitl [Ho]; · iexact Ho
  iexact Hr

/-- The windows' staging may be waited for, whatever is owed then. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

set_option maxRecDepth 8000 in
/-- Every fair execution of the 32 devices ends, with every window's array as computed and every counter at zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold what they held, -/
theorem finalA_A (c : Dev nD) : finalA m ρ c (0 : Fin 3) = inA m c :=
  (dats (F := F) m ρ 0 c).arrAt_in (0 : Fin 3) rfl _
/-- the second as well as the first, -/
theorem finalA_B (c : Dev nD) : finalA m ρ c (1 : Fin 3) = inB m c :=
  (dats (F := F) m ρ 0 c).arrAt_in (1 : Fin 3) rfl _
/-- and the result's array holds the result, whole, on every device. -/
theorem finalA_out (c : Dev nD) : finalA m ρ c (2 : Fin 3) = output m :=
  (dats (F := F) m ρ 0 c).arrAt_eq_of_after_last (2 : Fin 3) t0_0 (by decide +kernel) _ fun _ => rfl

end Cert.KernelIdealProof

end
-- ==== Proof.KernelIdealValue.lean ====
/-
# `KernelIdealValue`: over the extended reals, the kernel's result is the reference's

The kernel cuts the contraction of length 16384 into 32 stretches of 512, one to a device, and adds the 32 partial sums in an
order that differs from device to device. Over the extended reals a sum may be cut and reordered freely and a change of format
changes nothing, so the sum device `c` ends with (`total_eq`) is the whole product at its rows (`total_eq_product`), and the
activation applied to it is the reference's (`result_eq`, `output_eq`).
-/
module

public import proofs.«01_k».proof.Proof.KernelIdealContents
public import proofs.«01_k».proof.Proof.Gen.ReferenceIdeal.Run
public import Idealize.ShloMosaic.Lib.MatmulPlain
public import Idealize.ShloMosaic.Lib.StackMember
public import Idealize.ShloMosaic.Lib.KernelVsHost
public import Idealize.ShloMosaic.Lib.Layout
public import Idealize.ShloMosaic.Lib.Pipeline.Value
public import Idealize.ShloMosaic.Lib.Pointwise.Sums

@[expose] public section

noncomputable section

namespace Cert.KernelIdealProof

open Cert.KernelIdeal Cert.KernelIdeal.Gen Cert.Walk
open Idealize.ShloMosaic
open Idealize.ShloMosaic.TcCoe
open scoped BigOperators

/-! ## What the kernel's vector operations are -/

/-- A partial product, entry by entry: the sum over the device's own stretch of the contraction. -/
theorem pay2_apply (a : Vec Ideal S1024x512 .bf16) (b : Vec Ideal S512x1024 .bf16) (r n : Fin 1024) :
    k0_pay2 a b (ValueIdx.ix2 r n) = ∑ k : Fin 512, a (ValueIdx.ix2 r k) * b (ValueIdx.ix2 k n) := by
  have h : k0_pay2 a b = truncf .bf16 (Host.dotGeneral (φ₁ := .bf16) (φ₂ := .bf16) (DotDims.plain 1024 512 1024) none a b) bitsLt_bf16_f32 := by
    unfold k0_pay2
    dsimp only
    rw [shapeCast_self, shapeCast_self, shapeCast_self, matmul_zero_eq_dotGeneral]
    rfl
  rw [h]
  show Host.dotGeneral (F := Ideal) (φ₁ := .bf16) (φ₂ := .bf16) (DotDims.plain 1024 512 1024) none a b (ValueIdx.ix2 r n) = _
  exact StackMember.dotGeneral_plain_apply none a b r n

/-- The accumulator's first value is the device's own slab. -/
theorem pay3_apply (v : Vec Ideal S32x1024 .bf16) (x : S32x1024.Idx) : k0_pay3 v x = v x := by
  unfold k0_pay3
  rw [shapeCast_self]
  rfl

/-- A further slab is added to the accumulator. -/
theorem pay4_apply (v : Vec Ideal S32x1024 .f32) (w : Vec Ideal S32x1024 .bf16) (x : S32x1024.Idx) :
    k0_pay4 v (lifted w) x = v x + w x := by
  unfold k0_pay4
  rw [shapeCast_self]
  show v x + shapeCast S32x1024 (lifted w) shapeCasts_S1x1x32x1024_S32x1024 x = v x + w x
  rw [shapeCast_apply (lifted w) _ x (lift4 x) (by
    rw [Shape.rowMajor_val_four, Shape.rowMajor_val_two]
    show ((0 * 1 + 0) * 32 + (x 0).val) * 1024 + (x 1).val = (x 0).val * 1024 + (x 1).val
    omega)]
  refine congrArg (v x + w ·) ?_
  funext a
  fin_cases a <;> rfl

/-- The activation on one value, as the reference computes it. -/
def activate (z : Ideal .f32) : Ideal .bf16 :=
  FloatOps.truncf .bf16 bitsLt_bf16_f32
    (FloatOps.hostDivf z (FloatOps.addf (FloatOps.ofBits .f32 0x3F800000#32) (FloatOps.hostUnary .exp (FloatOps.hostNegf z))))

/-- The kernel applies the same activation: its negation is a subtraction from zero. -/
theorem pay1_apply (v : Vec Ideal S32x1024 .f32) (x : S32x1024.Idx) : k0_pay1 v x = activate (v x) := by
  unfold k0_pay1
  rw [subf_zero_eq_hostNegf]
  rfl

/-! ## The order of the sum -/

/-- Going round once, device `c` meets every other device: the sum over the devices in the kernel's order, and its own. -/
theorem sum_sources {A : Type} [AddCommMonoid A] (c : Dev nD) (f : Dev nD → A) :
    f c + ∑ i ∈ Finset.range 31, f (source c i) = ∑ s, f s := by
  have h : ∑ i ∈ Finset.range 31, f (source c i) = ∑ s ∈ Finset.univ.erase c, f s := by
    rw [univ_erase_eq, Finset.sum_map, Finset.sum_range, ← Equiv.sum_comp Fin.revPerm (fun t => f ((⟨peer c, peer_injective c⟩ : Fin 31 ↪ Fin 32) t))]
    exact Finset.sum_congr rfl fun t _ => congrArg f (peer_rev_eq c t).symm
  rw [h, Finset.add_sum_erase Finset.univ f (Finset.mem_univ c)]

section Contents
variable (m : (ℓ : Loc nD τ sig) → Buf (Elt Ideal) ℓ)

/-- The accumulator after `n` further slabs. -/
theorem total_apply (c : Dev nD) (n : ℕ) (x : S32x1024.Idx) :
    total m c n x = slab m c c x + ∑ i ∈ Finset.range n, slab m (source c i) c x := by
  induction n with
  | zero => rw [Finset.sum_range_zero, add_zero]; exact pay3_apply _ x
  | succ n ih =>
    rw [Finset.sum_range_succ, ← add_assoc, ← ih]
    exact pay4_apply _ _ x

/-- The accumulator at the end: every device's slab, whatever the order. -/
theorem total_eq (c : Dev nD) (x : S32x1024.Idx) : total m c 31 x = ∑ s : Dev nD, slab m s c x :=
  (total_apply m c 31 x).trans (sum_sources c fun s => slab m s c x)

/-! ## The whole product -/

variable (A : (⟨2, ![1024, 16384]⟩ : Shape).Idx → Ideal .bf16) (B : (⟨2, ![16384, 1024]⟩ : Shape).Idx → Ideal .bf16)

/-- Each device holds its stretch of the columns of `A` and of the rows of `B`. -/
def Parts : Prop := ∀ c : Dev nD,
  inA m c = Layout.block ⟨2, ![1024, 512]⟩ ⟨2, ![1024, 16384]⟩ 1 32 c A ∧ inB m c = Layout.block ⟨2, ![512, 1024]⟩ ⟨2, ![16384, 1024]⟩ 0 32 c B

variable {m A B}

/-- A device's partial product in terms of the whole operands. -/
theorem partial_apply (h : Parts m A B) (s : Dev nD) (r n : Fin 1024) :
    partial_ m s (ValueIdx.ix2 r n) = ∑ k : Fin 512,
      A (ValueIdx.ix2 r ⟨s.val * 512 + k.val, by have : s.val < 32 := s.isLt; have := k.isLt; omega⟩)
        * B (ValueIdx.ix2 ⟨s.val * 512 + k.val, by have : s.val < 32 := s.isLt; have := k.isLt; omega⟩ n) := by
  unfold partial_
  rw [pay2_apply, (h s).1, (h s).2]
  refine Finset.sum_congr rfl fun k _ => ?_
  rw [Layout.block_apply, Layout.block_apply]
  refine congrArg₂ (fun i j => A i * B j) ?_ ?_
  · funext a; refine Fin.ext ?_; fin_cases a <;> rfl
  · funext a; refine Fin.ext ?_; fin_cases a <;> rfl

/-- The 32 partial products add up to the whole product. -/
theorem sum_partial (h : Parts m A B) (i : S1024x1024.Idx) :
    ∑ s : Dev nD, partial_ m s i = Host.dotGeneral (DotDims.plain 1024 16384 1024) none A B i := by
  obtain ⟨r, n, rfl⟩ : ∃ (r n : Fin 1024), i = ValueIdx.ix2 r n := ⟨_, _, ValueIdx.eq_ix2 i⟩
  rw [StackMember.dotGeneral_plain_apply, Fin.sum_univ_tiles 32 512 rfl]
  exact Finset.sum_congr rfl fun s _ => partial_apply h s r n

/-- Device `c`'s sum is the whole product at its rows. -/
theorem total_eq_product (h : Parts m A B) (c : Dev nD) (x : S32x1024.Idx) :
    total m c 31 x = Host.dotGeneral (DotDims.plain 1024 16384 1024) none A B ((rowRect c).emb x) :=
  (total_eq m c x).trans (sum_partial h _)

/-- An element of the result, placed among its owner's rows. -/
theorem rowRect_owner (i : S1024x1024.Idx) : (rowRect (owner i)).emb (inRows i) = i := by
  funext a
  refine Fin.ext ?_
  rw [rowRect_emb_val]
  fin_cases a
  · show 32 * ((i 0).val / 32) + (i 0).val % 32 = (i 0).val
    omega
  · show 0 + (i 1).val = (i 1).val
    omega

/-- Every element of the kernel's result: the activation of the whole product there. -/
theorem output_apply (h : Parts m A B) (i : S1024x1024.Idx) :
    output m i = activate (Host.dotGeneral (φ₁ := .bf16) (φ₂ := .bf16) (DotDims.plain 1024 16384 1024) none A B i) := by
  show k0_pay1 (total m (owner i) 31) (inRows i) = _
  rw [pay1_apply, total_eq_product h, rowRect_owner]

variable (A B) in
/-- The reference's result, as its ten operations compute it from the whole operands. -/
def referenceOut : S1024x1024.Idx → Ideal .bf16 :=
  let z : FVec Ideal Cert.ReferenceIdeal.S1024x1024 .f32 :=
    Host.dotGeneral Cert.ReferenceIdeal.dot_S1024x16384_S16384x1024_S1024x1024_1_0_0_1_n_n none
      (extf (F := Ideal) (s := Cert.ReferenceIdeal.S1024x16384) (φ := .bf16) .f32 A Cert.ReferenceIdeal.Gen.bitsLt_bf16_f32)
      (extf (F := Ideal) (s := Cert.ReferenceIdeal.S16384x1024) (φ := .bf16) .f32 B Cert.ReferenceIdeal.Gen.bitsLt_bf16_f32)
  truncf .bf16 (Host.divf z (addf (broadcastInDim Cert.ReferenceIdeal.S1024x1024 ![] Cert.ReferenceIdeal.Gen.bcast_S_S1024x1024
    (constant Cert.ReferenceIdeal.S_ .f32 0x3F800000#32)) (Host.exp (Host.negf z)))) Cert.ReferenceIdeal.Gen.bitsLt_bf16_f32

/-- The kernel's result is the reference's. -/
theorem output_eq (h : Parts m A B) : output m = referenceOut A B := by
  funext i
  exact output_apply h i

end Contents

end Cert.KernelIdealProof

end
-- ==== Proof.lean ====
/-
# The claims, assembled

The kernel's run on 32 devices is proved once for any float values (Proof/KernelLaunch.lean for the kernel,
Proof/KernelIdealLaunch.lean for its ideal reading): every fair execution ends, with the arguments unchanged, every counter at
zero and every device's result array holding `output`. The frames are that run with the values dropped; the value claim is the
ideal run together with `output_eq` (Proof/KernelIdealValue.lean).
-/
module

public import proofs.«01_k».proof.Defs
public import proofs.«01_k».proof.Proof.KernelLaunch
public import proofs.«01_k».proof.Proof.KernelIdealLaunch
public import proofs.«01_k».proof.Proof.KernelIdealValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel ends on every fair execution, its arguments unchanged and its counters at zero. -/
theorem frame_kernel : Cert.quiescent_Kernel (hKernel := Cert.Kernel.Gen.facts) := fun m ρ _ =>
  (θ_run Cert.Kernel.defs _ _).mono
    (fun _ h => ⟨fun c => ⟨(h.1 c (0 : Fin 3)).trans (Cert.KernelProof.finalA_A m ρ c), (h.1 c (1 : Fin 3)).trans (Cert.KernelProof.finalA_B m ρ c)⟩, h.2⟩)
    (Cert.KernelProof.run_main (F := Bits) m ρ)

/-- So does its ideal reading. -/
theorem frame_ideal : Cert.quiescent_KernelIdeal (hKernelIdeal := Cert.KernelIdeal.Gen.facts) := fun m ρ _ =>
  (θ_run Cert.KernelIdeal.defs _ _).mono
    (fun _ h => ⟨fun c => ⟨(h.1 c (0 : Fin 3)).trans (Cert.KernelIdealProof.finalA_A m ρ c),
      (h.1 c (1 : Fin 3)).trans (Cert.KernelIdealProof.finalA_B m ρ c)⟩, h.2⟩)
    (Cert.KernelIdealProof.run_main (F := Ideal) m ρ)

/-- So does the reference, which has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device ends with the reference's whole result. -/
theorem value : Cert.algebraic_KernelIdeal_ReferenceIdeal (hKernelIdeal := Cert.KernelIdeal.Gen.facts)
    (hReferenceIdeal := Cert.ReferenceIdeal.Gen.facts) := by
  intro m ρ m' ρ' _ hparts
  let A := m' (((0 : Dev Cert.ReferenceIdeal.nD).tc : Thread _ Cert.ReferenceIdeal.τ).loc Cert.ReferenceIdeal.main_arg0)
  let B := m' (((0 : Dev Cert.ReferenceIdeal.nD).tc : Thread _ Cert.ReferenceIdeal.τ).loc Cert.ReferenceIdeal.main_arg1)
  have hout : Cert.KernelIdealProof.output m = Cert.KernelIdealProof.referenceOut A B := Cert.KernelIdealProof.output_eq hparts
  refine ⟨Cert.KernelIdealProof.referenceOut A B, ?_, ?_⟩
  · exact (θ_run Cert.KernelIdeal.defs _ _).mono
      (fun _ h c => ⟨((h.1 c (2 : Fin 3)).trans (Cert.KernelIdealProof.finalA_out m ρ c)).trans hout,
        (h.1 c (0 : Fin 3)).trans (Cert.KernelIdealProof.finalA_A m ρ c), (h.1 c (1 : Fin 3)).trans (Cert.KernelIdealProof.finalA_B m ρ c)⟩)
      (Cert.KernelIdealProof.run_main (F := Ideal) m ρ)
  · exact (θ_run Cert.ReferenceIdeal.defs _ _).mono (fun _ h => h 0) (Cert.ReferenceIdeal.Value.run (F := Ideal) m' ρ')

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
